-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v4)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v4) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S16x384x384x3 : Shape := ⟨4, ![16, 384, 384, 3]⟩
abbrev S16x2 : Shape := ⟨2, ![16, 2]⟩
abbrev S16x3x384x384 : Shape := ⟨4, ![16, 3, 384, 384]⟩
abbrev S48x384x384 : Shape := ⟨3, ![48, 384, 384]⟩
abbrev S48x512x512 : Shape := ⟨3, ![48, 512, 512]⟩
abbrev S24x512x512 : Shape := ⟨3, ![24, 512, 512]⟩
abbrev S3 : Shape := ⟨1, ![3]⟩
abbrev S1 : Shape := ⟨1, ![1]⟩
abbrev S_ : Shape := ⟨0, ![]⟩
abbrev S2x384x384 : Shape := ⟨3, ![2, 384, 384]⟩
abbrev S4x384x384 : Shape := ⟨3, ![4, 384, 384]⟩
abbrev S8x384x384 : Shape := ⟨3, ![8, 384, 384]⟩
abbrev S8x384x128 : Shape := ⟨3, ![8, 384, 128]⟩
abbrev S8x128x512 : Shape := ⟨3, ![8, 128, 512]⟩
abbrev S2x512x512 : Shape := ⟨3, ![2, 512, 512]⟩
abbrev S4x512x512 : Shape := ⟨3, ![4, 512, 512]⟩
abbrev S8x512x512 : Shape := ⟨3, ![8, 512, 512]⟩
abbrev S6x384x384 : Shape := ⟨3, ![6, 384, 384]⟩
abbrev S6x512x512 : Shape := ⟨3, ![6, 512, 512]⟩
abbrev S16x3x512x512 : Shape := ⟨4, ![16, 3, 512, 512]⟩
abbrev S16x512x512x3 : Shape := ⟨4, ![16, 512, 512, 3]⟩

abbrev nBuf : Space → Nat
  | .hbm => 7
  | .vmem => 1
  | .smem => 0
  | _ => 0

abbrev bufTy : (tb : Table) → Fin (tcTables nBuf tb) → BufTy
  | .hbm, ⟨0, _⟩ => ⟨S16x384x384x3, .f32⟩
  | .hbm, ⟨1, _⟩ => ⟨S16x2, .i32⟩
  | .hbm, ⟨2, _⟩ => ⟨S16x3x384x384, .f32⟩
  | .hbm, ⟨3, _⟩ => ⟨S48x384x384, .f32⟩
  | .hbm, ⟨4, _⟩ => ⟨S48x512x512, .f32⟩
  | .hbm, ⟨5, _⟩ => ⟨S16x3x512x512, .f32⟩
  | .hbm, ⟨6, _⟩ => ⟨S16x512x512x3, .f32⟩
  | .local _ .vmem, ⟨0, _⟩ => ⟨S24x512x512, .f32⟩
  | _, _ => ⟨S16x384x384x3, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== Reference.lean ====
abbrev S16x384x384x3 : Shape := ⟨4, ![16, 384, 384, 3]⟩
abbrev S16x2 : Shape := ⟨2, ![16, 2]⟩
abbrev S_ : Shape := ⟨0, ![]⟩
abbrev S16x512x512x3 : Shape := ⟨4, ![16, 512, 512, 3]⟩
abbrev S1 : Shape := ⟨1, ![1]⟩
abbrev S2 : Shape := ⟨1, ![2]⟩

abbrev nBuf : Space → Nat
  | .hbm => 10
  | .vmem => 0
  | .smem => 0
  | _ => 0

abbrev bufTy : (tb : Table) → Fin (tcTables nBuf tb) → BufTy
  | .hbm, ⟨0, _⟩ => ⟨S16x384x384x3, .f32⟩
  | .hbm, ⟨1, _⟩ => ⟨S16x2, .i32⟩
  | .hbm, ⟨2, _⟩ => ⟨S_, .f32⟩
  | .hbm, ⟨3, _⟩ => ⟨S16x512x512x3, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S16x512x512x3, .f32⟩
  | _, _ => ⟨S16x384x384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Proof.Box.lean ====
/-
  Hand-written, untrusted. The mathematics of the padding, free of any program: three-axis arrays of planes, the
  array the kernel has to produce (`pad`), what the staging buffer holds once a group of planes has been copied in
  (`load`) and once a box has been filled (`fill`), and the boxes these speak of.
-/
module

public import Idealize.ShloMosaic.Shape

@[expose] public section

noncomputable section

namespace Cert.Pad

open Idealize.ShloMosaic

/-- An array of `n` planes of `h` rows and `w` columns. -/
abbrev A3 (n h w : ℕ) : Shape := ⟨3, ![n, h, w]⟩

/-- The index (plane, row, column). -/
abbrev at3 {n h w : ℕ} (a b c : ℕ) (ha : a < n) (hb : b < h) (hc : c < w) : (A3 n h w).Idx :=
  fun k => ⟨![a, b, c] k, by revert k; exact Fin.forall_fin_succ.mpr ⟨ha, Fin.forall_fin_succ.mpr ⟨hb, Fin.forall_fin_succ.mpr ⟨hc, fun k => k.elim0⟩⟩⟩⟩

/-- Two indices of equal coordinates are equal. -/
theorem idx_ext {n h w : ℕ} {i j : (A3 n h w).Idx} (h0 : (i 0).val = (j 0).val) (h1 : (i 1).val = (j 1).val)
    (h2 : (i 2).val = (j 2).val) : i = j := by
  funext k
  apply Fin.ext
  revert k
  exact Fin.forall_fin_succ.mpr ⟨h0, Fin.forall_fin_succ.mpr ⟨h1, Fin.forall_fin_succ.mpr ⟨h2, fun k => k.elim0⟩⟩⟩

/-- The box of `n × h × w` elements whose first corner is (`a`, `b`, `c`). -/
abbrev box {N H W : ℕ} (a b c n h w : ℕ) (hb : ∀ k, ![a, b, c] k + ![n, h, w] k ≤ (A3 N H W).size k) : Rect (A3 N H W) :=
  Rect.unit (s := A3 N H W) ![a, b, c] ![n, h, w] hb

/-- Membership in a box, by coordinates. -/
theorem mem_box {N H W a b c n h w : ℕ} {hb : ∀ k, ![a, b, c] k + ![n, h, w] k ≤ (A3 N H W).size k} {i : (A3 N H W).Idx} :
    i ∈ (box a b c n h w hb).set ↔ (a ≤ (i 0).val ∧ (i 0).val < a + n) ∧ (b ≤ (i 1).val ∧ (i 1).val < b + h)
      ∧ (c ≤ (i 2).val ∧ (i 2).val < c + w) := by
  rw [Rect.mem_set_unit]
  constructor
  · intro h; exact ⟨h 0, h 1, h 2⟩
  · rintro ⟨h0, h1, h2⟩
    exact Fin.forall_fin_succ.mpr ⟨h0, Fin.forall_fin_succ.mpr ⟨h1, Fin.forall_fin_succ.mpr ⟨h2, fun k => k.elim0⟩⟩⟩

section Contents

variable {V : Type}

/-- Each plane of `x` in the first 384 rows and columns of a 512 × 512 plane, `z` everywhere else: the result. -/
def pad (z : V) (x : (A3 48 384 384).Idx → V) : (A3 48 512 512).Idx → V := fun i =>
  if h : (i 1).val < 384 ∧ (i 2).val < 384 then x (at3 (i 0).val (i 1).val (i 2).val (i 0).isLt h.1 h.2) else z

/-- The staging buffer after planes `o, o + 1, …, o + n - 1` of `x` have been copied over the first 384 rows and columns
    of its planes `a, …, a + n - 1`. -/
def load (a o n : ℕ) (x : (A3 48 384 384).Idx → V) (f : (A3 24 512 512).Idx → V) : (A3 24 512 512).Idx → V := fun i =>
  if h : (a ≤ (i 0).val ∧ (i 0).val < a + n ∧ o + ((i 0).val - a) < 48) ∧ (i 1).val < 384 ∧ (i 2).val < 384 then
    x (at3 (o + ((i 0).val - a)) (i 1).val (i 2).val h.1.2.2 h.2.1 h.2.2)
  else f i

/-- A buffer after every element of `S` has been set to `z`. -/
def fill {I : Type} [DecidableEq I] (S : Finset I) (z : V) (f : I → V) : I → V := fun i => if i ∈ S then z else f i

/-- Outside the first 384 rows and columns, planes `a, …, a + 7` hold `z`. -/
def Padded (z : V) (a : ℕ) (f : (A3 24 512 512).Idx → V) : Prop :=
  ∀ i, a ≤ (i 0).val → (i 0).val < a + 8 → ¬((i 1).val < 384 ∧ (i 2).val < 384) → f i = z

/-- Copying planes in leaves the padding alone. -/
theorem Padded.load {z : V} {a : ℕ} {f : (A3 24 512 512).Idx → V} (hf : Padded z a f) (a' o n : ℕ) (x : (A3 48 384 384).Idx → V) :
    Padded z a (load a' o n x f) := fun i h0 h1 h2 => by
  unfold Cert.Pad.load
  rw [dif_neg fun h => h2 h.2]
  exact hf i h0 h1 h2

/-- The two fills of a bank of eight planes — the columns from 384 of the first 384 rows, then the rows from 384 —
    leave its whole padding at `z`. -/
theorem padded_fill (z : V) (a : ℕ) (f : (A3 24 512 512).Idx → V)
    (h₁ : ∀ k, ![a, 0, 384] k + ![8, 384, 128] k ≤ (A3 24 512 512).size k)
    (h₂ : ∀ k, ![a, 384, 0] k + ![8, 128, 512] k ≤ (A3 24 512 512).size k) :
    Padded z a (fill (box a 384 0 8 128 512 h₂).set z (fill (box a 0 384 8 384 128 h₁).set z f)) := fun i h0 h1 h2 => by
  unfold fill
  have e1 : (i 1).val < 512 := (i 1).isLt
  have e2 : (i 2).val < 512 := (i 2).isLt
  by_cases hr : 384 ≤ (i 1).val
  · rw [if_pos (mem_box.mpr ⟨⟨h0, h1⟩, ⟨hr, by omega⟩, ⟨by omega, by omega⟩⟩)]
  · rw [if_neg fun h => hr (mem_box.mp h).2.1.1, if_pos (mem_box.mpr ⟨⟨h0, h1⟩, ⟨by omega, by omega⟩, ⟨by omega, by omega⟩⟩)]

/-- The copied-in box does not depend on what was there before. -/
theorem load_congr {a o n : ℕ} (x : (A3 48 384 384).Idx → V) (f f' : (A3 24 512 512).Idx → V) (hn : o + n ≤ 48) {i : (A3 24 512 512).Idx}
    {hb : ∀ k, ![a, 0, 0] k + ![n, 384, 384] k ≤ (A3 24 512 512).size k} (hi : i ∈ (box a 0 0 n 384 384 hb).set) :
    load a o n x f i = load a o n x f' i := by
  obtain ⟨⟨h0, h0'⟩, ⟨-, h1⟩, ⟨-, h2⟩⟩ := mem_box.mp hi
  unfold load
  rw [dif_pos ⟨⟨h0, h0', by omega⟩, by omega, by omega⟩, dif_pos ⟨⟨h0, h0', by omega⟩, by omega, by omega⟩]

/-- Off the copied-in box nothing changes. -/
theorem load_off {a o n : ℕ} (x : (A3 48 384 384).Idx → V) (f : (A3 24 512 512).Idx → V) {i : (A3 24 512 512).Idx}
    {hb : ∀ k, ![a, 0, 0] k + ![n, 384, 384] k ≤ (A3 24 512 512).size k} (hi : i ∉ (box a 0 0 n 384 384 hb).set) :
    load a o n x f i = f i := by
  unfold load
  exact dif_neg fun h => hi (mem_box.mpr ⟨⟨h.1.1, h.1.2.1⟩, ⟨by omega, by omega⟩, ⟨by omega, by omega⟩⟩)

/-- What the staging buffer holds under the copied-in box: the planes of `x`. -/
theorem load_emb {a o n : ℕ} (x : (A3 48 384 384).Idx → V) (f : (A3 24 512 512).Idx → V)
    (hb : ∀ k, ![a, 0, 0] k + ![n, 384, 384] k ≤ (A3 24 512 512).size k)
    (ho : ∀ k, ![o, 0, 0] k + ![n, 384, 384] k ≤ (A3 48 384 384).size k) (j : (A3 n 384 384).Idx) :
    load a o n x f ((box a 0 0 n 384 384 hb).emb j) = x ((box o 0 0 n 384 384 ho).emb j) := by
  have j0 : (j 0).val < n := (j 0).isLt
  have j1 : (j 1).val < 384 := (j 1).isLt
  have j2 : (j 2).val < 384 := (j 2).isLt
  have hn : o + n ≤ 48 := ho 0
  have e0 : (((box a 0 0 n 384 384 hb).emb j) 0).val = a + 1 * (j 0).val := rfl
  have e1 : (((box a 0 0 n 384 384 hb).emb j) 1).val = 0 + 1 * (j 1).val := rfl
  have e2 : (((box a 0 0 n 384 384 hb).emb j) 2).val = 0 + 1 * (j 2).val := rfl
  unfold load
  rw [dif_pos ⟨⟨by omega, by omega, by omega⟩, by omega, by omega⟩]
  refine congrArg x (idx_ext ?_ ?_ ?_)
  · show o + ((((box a 0 0 n 384 384 hb).emb j) 0).val - a) = o + 1 * (j 0).val
    omega
  · show (((box a 0 0 n 384 384 hb).emb j) 1).val = 0 + 1 * (j 1).val
    omega
  · show (((box a 0 0 n 384 384 hb).emb j) 2).val = 0 + 1 * (j 2).val
    omega

/-- A loaded and padded bank's planes are the result's planes. -/
theorem pad_emb {a o n : ℕ} (z : V) (x : (A3 48 384 384).Idx → V) (f : (A3 24 512 512).Idx → V) (hf : Padded z a f) (hn : n ≤ 8)
    (hb : ∀ k, ![a, 0, 0] k + ![n, 512, 512] k ≤ (A3 24 512 512).size k)
    (ho : ∀ k, ![o, 0, 0] k + ![n, 512, 512] k ≤ (A3 48 512 512).size k) (j : (A3 n 512 512).Idx) :
    pad z x ((box o 0 0 n 512 512 ho).emb j) = load a o n x f ((box a 0 0 n 512 512 hb).emb j) := by
  have j0 : (j 0).val < n := (j 0).isLt
  have ho' : o + n ≤ 48 := ho 0
  have e0 : (((box a 0 0 n 512 512 hb).emb j) 0).val = a + 1 * (j 0).val := rfl
  have e1 : (((box a 0 0 n 512 512 hb).emb j) 1).val = 0 + 1 * (j 1).val := rfl
  have e2 : (((box a 0 0 n 512 512 hb).emb j) 2).val = 0 + 1 * (j 2).val := rfl
  have d1 : (((box o 0 0 n 512 512 ho).emb j) 1).val = 0 + 1 * (j 1).val := rfl
  have d2 : (((box o 0 0 n 512 512 ho).emb j) 2).val = 0 + 1 * (j 2).val := rfl
  unfold pad load
  by_cases h : (j 1).val < 384 ∧ (j 2).val < 384
  · rw [dif_pos ⟨by omega, by omega⟩, dif_pos ⟨⟨by omega, by omega, by omega⟩, by omega, by omega⟩]
    refine congrArg x (idx_ext ?_ ?_ ?_)
    · show o + 1 * (j 0).val = o + ((((box a 0 0 n 512 512 hb).emb j) 0).val - a)
      omega
    · rfl
    · rfl
  · rw [dif_neg fun h' => h ⟨by omega, by omega⟩, dif_neg fun h' => h ⟨by omega, by omega⟩]
    exact (hf _ (by omega) (by omega) fun h' => h ⟨by omega, by omega⟩).symm

end Contents

/-! ## The planes a kernel step moves

The eight groups of planes, and what they cover. -/

/-- The first plane of each group. -/
abbrev offs : Fin 8 → ℕ := ![0, 2, 6, 14, 22, 30, 38, 44]
/-- The number of planes of each group. -/
abbrev sizes : Fin 8 → ℕ := ![2, 4, 8, 8, 8, 8, 6, 4]

/-- Two groups have no plane in common. -/
theorem groups_disjoint : ∀ g g' : Fin 8, g ≠ g' → offs g + sizes g ≤ offs g' ∨ offs g' + sizes g' ≤ offs g := by decide

/-- Every plane is in a group. -/
theorem groups_cover : ∀ p : Fin 48, ∃ g : Fin 8, offs g ≤ p.val ∧ p.val < offs g + sizes g := by decide

/-- A group's planes are planes. -/
theorem groups_bound : ∀ g : Fin 8, offs g + sizes g ≤ 48 := by decide

/-- A group's planes, whole, lie inside the array. -/
theorem group_inb (g : Fin 8) (h w : ℕ) : ∀ k, ![offs g, 0, 0] k + ![sizes g, h, w] k ≤ (A3 48 h w).size k :=
  Fin.forall_fin_succ.mpr ⟨groups_bound g, Fin.forall_fin_succ.mpr ⟨(Nat.zero_add h).le, Fin.forall_fin_succ.mpr ⟨(Nat.zero_add w).le, fun k => k.elim0⟩⟩⟩

/-- The planes of group `g` of an array of 48 planes. -/
abbrev group (h w : ℕ) (g : Fin 8) : Finset (A3 48 h w).Idx := (box (offs g) 0 0 (sizes g) h w (group_inb g h w)).set

theorem group_disjoint {h w : ℕ} {g g' : Fin 8} (hg : g ≠ g') : Disjoint (group h w g) (group h w g') :=
  Rect.unit_disjoint 0 (groups_disjoint g g' hg)

/-- Every element is in a group. -/
theorem group_cover {h w : ℕ} (i : (A3 48 h w).Idx) : ∃ g, i ∈ group h w g := by
  obtain ⟨g, h0, h1⟩ := groups_cover (i 0)
  exact ⟨g, mem_box.mpr ⟨⟨h0, h1⟩, ⟨Nat.zero_le _, (Nat.zero_add h).symm ▸ (i 1).isLt⟩, ⟨Nat.zero_le _, (Nat.zero_add w).symm ▸ (i 2).isLt⟩⟩⟩

/-- A bank's planes, whole, lie inside the staging buffer. -/
theorem bank_inb (b : Fin 3) : ∀ k, ![8 * b.val, 0, 0] k + ![8, 512, 512] k ≤ (A3 24 512 512).size k :=
  Fin.forall_fin_succ.mpr ⟨by show 8 * b.val + 8 ≤ 24; omega, Fin.forall_fin_succ.mpr ⟨(Nat.zero_add 512).le, Fin.forall_fin_succ.mpr ⟨(Nat.zero_add 512).le, fun k => k.elim0⟩⟩⟩

/-- Bank `b` of the staging buffer: eight planes. -/
abbrev bank (b : Fin 3) : Finset (A3 24 512 512).Idx := (box (8 * b.val) 0 0 8 512 512 (bank_inb b)).set

theorem bank_disjoint {b b' : Fin 3} (hb : b ≠ b') : Disjoint (bank b) (bank b') :=
  Rect.unit_disjoint 0 (by show 8 * b.val + 8 ≤ 8 * b'.val ∨ 8 * b'.val + 8 ≤ 8 * b.val; omega)

/-- Every element is in a bank. -/
theorem bank_cover (i : (A3 24 512 512).Idx) : ∃ b, i ∈ bank b := by
  have h0 : (i 0).val < 24 := (i 0).isLt
  have h1 : (i 1).val < 512 := (i 1).isLt
  have h2 : (i 2).val < 512 := (i 2).isLt
  exact ⟨⟨(i 0).val / 8, by omega⟩, mem_box.mpr ⟨⟨by show 8 * ((i 0).val / 8) ≤ _; omega, by show _ < 8 * ((i 0).val / 8) + 8; omega⟩, ⟨by omega, by omega⟩, ⟨by omega, by omega⟩⟩⟩

/-- No group has more planes than a bank, and every group has some. -/
theorem sizes_le : ∀ g : Fin 8, sizes g ≤ 8 := by decide
theorem sizes_pos : ∀ g : Fin 8, 0 < sizes g := by decide

/-- Three bounds make a box lie inside the array. -/
theorem inb3 {N H W a b c n h w : ℕ} (h0 : a + n ≤ N) (h1 : b + h ≤ H) (h2 : c + w ≤ W) :
    ∀ k, ![a, b, c] k + ![n, h, w] k ≤ (A3 N H W).size k :=
  Fin.forall_fin_succ.mpr ⟨h0, Fin.forall_fin_succ.mpr ⟨h1, Fin.forall_fin_succ.mpr ⟨h2, fun k => k.elim0⟩⟩⟩

/-- A group of planes fits a bank. -/
theorem fits (b : Fin 3) (g : Fin 8) : 8 * b.val + sizes g ≤ 24 := by
  have := sizes_le g
  omega

/-- The planes of bank `b` that group `g` goes through, of `h` rows and `w` columns, lie inside the staging buffer. -/
theorem room (b : Fin 3) (g : Fin 8) {h w : ℕ} (hh : h ≤ 512) (hw : w ≤ 512) :
    ∀ k, ![8 * b.val, 0, 0] k + ![sizes g, h, w] k ≤ (A3 24 512 512).size k :=
  inb3 (fits b g) (by omega) (by omega)

theorem room_in (b : Fin 3) (g : Fin 8) : ∀ k, ![8 * b.val, 0, 0] k + ![sizes g, 384, 384] k ≤ (A3 24 512 512).size k :=
  room b g (by omega) (by omega)
theorem room_out (b : Fin 3) (g : Fin 8) : ∀ k, ![8 * b.val, 0, 0] k + ![sizes g, 512, 512] k ≤ (A3 24 512 512).size k :=
  room b g le_rfl le_rfl

/-- Where group `g` lands in bank `b`. -/
abbrev landing (b : Fin 3) (g : Fin 8) : Finset (A3 24 512 512).Idx := (box (8 * b.val) 0 0 (sizes g) 384 384 (room_in b g)).set
/-- The planes of bank `b` that group `g` goes through, whole. -/
abbrev leaving (b : Fin 3) (g : Fin 8) : Finset (A3 24 512 512).Idx := (box (8 * b.val) 0 0 (sizes g) 512 512 (room_out b g)).set

theorem right_inb (b : Fin 3) : ∀ k, ![8 * b.val, 0, 384] k + ![8, 384, 128] k ≤ (A3 24 512 512).size k :=
  inb3 (by omega) (by omega) (by omega)
theorem below_inb (b : Fin 3) : ∀ k, ![8 * b.val, 384, 0] k + ![8, 128, 512] k ≤ (A3 24 512 512).size k :=
  inb3 (by omega) (by omega) (by omega)

/-- The columns from 384 of the first 384 rows of bank `b`. -/
abbrev right (b : Fin 3) : Finset (A3 24 512 512).Idx := (box (8 * b.val) 0 384 8 384 128 (right_inb b)).set
/-- The rows from 384 of bank `b`. -/
abbrev below (b : Fin 3) : Finset (A3 24 512 512).Idx := (box (8 * b.val) 384 0 8 128 512 (below_inb b)).set

theorem landing_sub (b : Fin 3) (g : Fin 8) : landing b g ⊆ bank b := fun i hi => by
  obtain ⟨h0, h1, h2⟩ := mem_box.mp hi
  have := sizes_le g
  exact mem_box.mpr ⟨by omega, by omega, by omega⟩
theorem leaving_sub (b : Fin 3) (g : Fin 8) : leaving b g ⊆ bank b := fun i hi => by
  obtain ⟨h0, h1, h2⟩ := mem_box.mp hi
  have := sizes_le g
  exact mem_box.mpr ⟨by omega, by omega, by omega⟩
/-- The padding of a bank is outside what a transfer in writes. -/
theorem right_sub (b : Fin 3) (g : Fin 8) : right b ⊆ bank b \ landing b g := fun i hi => by
  obtain ⟨h0, h1, h2⟩ := mem_box.mp hi
  exact Finset.mem_sdiff.mpr ⟨mem_box.mpr ⟨by omega, by omega, by omega⟩, fun h => by have := (mem_box.mp h).2.2; omega⟩
theorem below_sub (b : Fin 3) (g : Fin 8) : below b ⊆ bank b \ landing b g := fun i hi => by
  obtain ⟨h0, h1, h2⟩ := mem_box.mp hi
  exact Finset.mem_sdiff.mpr ⟨mem_box.mpr ⟨by omega, by omega, by omega⟩, fun h => by have := (mem_box.mp h).2.1; omega⟩

section Banks

variable {V : Type}

/-- The staging buffer once group `g` of `x` has been copied into bank `b`. -/
abbrev loaded (b : Fin 3) (g : Fin 8) (x : (A3 48 384 384).Idx → V) (f : (A3 24 512 512).Idx → V) : (A3 24 512 512).Idx → V :=
  load (8 * b.val) (offs g) (sizes g) x f
/-- The staging buffer once the padding of bank `b` has been set to `z`. -/
abbrev filled (b : Fin 3) (z : V) (f : (A3 24 512 512).Idx → V) : (A3 24 512 512).Idx → V :=
  fill (below b) z (fill (right b) z f)
/-- The padding of bank `b` is in place. -/
abbrev Ready (z : V) (b : Fin 3) (f : (A3 24 512 512).Idx → V) : Prop := Padded z (8 * b.val) f

theorem ready_filled (b : Fin 3) (z : V) (f : (A3 24 512 512).Idx → V) : Ready z b (filled b z f) :=
  padded_fill z (8 * b.val) f (right_inb b) (below_inb b)
theorem Ready.loaded {z : V} {b : Fin 3} {f : (A3 24 512 512).Idx → V} (hf : Ready z b f) (g : Fin 8) (x : (A3 48 384 384).Idx → V) :
    Ready z b (loaded b g x f) := Padded.load hf _ _ _ x

end Banks

end Cert.Pad

end
-- ==== Proof.Steps.lean ====
/-
  Hand-written, untrusted. One lemma per kind of step of the kernel's body, over the resources the body holds: the
  eight groups of planes of the input (`main_v1`) and of the result (`main_v2`), and the three banks of the staging
  buffer (`cc0_scratch0`). A transfer in fills the first 384 rows and columns of some planes of a bank; a fill sets a
  box of a bank; a transfer out writes one group of the result.
-/
module

public import proofs.«01_k».proof.Proof.Gen.Kernel.Launch
public import proofs.«01_k».proof.Proof.Gen.Kernel.Skeleton
public import proofs.«01_k».proof.Proof.Gen.Kernel.Points
public import proofs.«01_k».proof.Proof.Box
public import Idealize.ShloMosaic.Lib.Pipeline.FrameBody
public import Idealize.ShloMosaic.Lib.Transfers
public import Idealize.ShloMosaic.Lib.Ring
public import Idealize.ShloMosaic.Lib.Tactic

@[expose] public section

noncomputable section

namespace Cert.Kernel.Hand

open Cert.Kernel Cert.Kernel.Gen Cert.Pad
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The views the body's transfers go through, as printed -/

/-- Planes `o, …, o + n - 1` of the input. -/
abbrev inSrc (o n : ℕ) (h : ∀ k, ![o, 0, 0] k + ![n, 384, 384] k ≤ (A3 48 384 384).size k) : Memref sig .tc .hbm (A3 n 384 384) .f32 :=
  (Memref.whole main_v1 : Memref sig .tc .hbm S48x384x384 .f32).slice (box o 0 0 n 384 384 h) (fun _ => rfl)
/-- The first 384 rows and columns of planes `a, …, a + n - 1` of the staging buffer. -/
abbrev bufIn (a n : ℕ) (h : ∀ k, ![a, 0, 0] k + ![n, 384, 384] k ≤ (A3 24 512 512).size k) : Memref sig .tc .vmem (A3 n 384 384) .f32 :=
  (Memref.whole cc0_scratch0 : Memref sig .tc .vmem S24x512x512 .f32).slice (box a 0 0 n 384 384 h) (fun _ => rfl)
/-- Planes `a, …, a + n - 1` of the staging buffer, whole. -/
abbrev bufOut (a n : ℕ) (h : ∀ k, ![a, 0, 0] k + ![n, 512, 512] k ≤ (A3 24 512 512).size k) : Memref sig .tc .vmem (A3 n 512 512) .f32 :=
  (Memref.whole cc0_scratch0 : Memref sig .tc .vmem S24x512x512 .f32).slice (box a 0 0 n 512 512 h) (fun _ => rfl)
/-- Planes `o, …, o + n - 1` of the result. -/
abbrev outDst (o n : ℕ) (h : ∀ k, ![o, 0, 0] k + ![n, 512, 512] k ≤ (A3 48 512 512).size k) : Memref sig .tc .hbm (A3 n 512 512) .f32 :=
  (Memref.whole main_v2 : Memref sig .tc .hbm S48x512x512 .f32).slice (box o 0 0 n 512 512 h) (fun _ => rfl)

/-! ## The resources -/

/-- Elements `S` of the input, at contents `x`. -/
abbrev inPt (c : Dev nD) (S : Finset (A3 48 384 384).Idx) (x : (A3 48 384 384).Idx → Elt F .f32) : sProp 𝕄 :=
  ((c : Thread nD τ).loc main_v1) ↦[S]{fullShare} x
/-- Elements `S` of the staging buffer, at contents `f`. -/
abbrev bufPt (c : Dev nD) (S : Finset (A3 24 512 512).Idx) (f : (A3 24 512 512).Idx → Elt F .f32) : sProp 𝕄 :=
  ((c : Thread nD τ).loc cc0_scratch0) ↦[S]{fullShare} f
/-- Elements `S` of the result, at contents `y`. -/
abbrev outPt (c : Dev nD) (S : Finset (A3 48 512 512).Idx) (y : (A3 48 512 512).Idx → Elt F .f32) : sProp 𝕄 :=
  ((c : Thread nD τ).loc main_v2) ↦[S]{fullShare} y
/-- The counter of DMA semaphore `s`, at zero. -/
abbrev idle (c : Dev nD) (s : DmaSem sig) : sProp 𝕄 := semVal ((c : Thread nD τ), SemLoc.dma s) 0

/-- A transfer of planes `o, …` of the input into planes `a, …` of the staging buffer, in flight on semaphore `s`. -/
def FlightIn (c : Dev nD) (s : DmaSem sig) (a o n : ℕ) (hb : ∀ k, ![a, 0, 0] k + ![n, 384, 384] k ≤ (A3 24 512 512).size k)
    (ho : ∀ k, ![o, 0, 0] k + ![n, 384, 384] k ≤ (A3 48 384 384).size k) (x : (A3 48 384 384).Idx → Elt F .f32)
    (f : (A3 24 512 512).Idx → Elt F .f32) : sProp 𝕄 :=
  Transfers.Flight countersEmb (c : Thread nD τ) (SemLoc.dma s) () (bufIn a n hb).view.dmaCredit
    iprop(bufPt c (box a 0 0 n 384 384 hb).set (load a o n x f) ∗ inPt c (box o 0 0 n 384 384 ho).set x)

/-- A transfer of planes `a, …` of the staging buffer into planes `o, …` of the result, in flight on semaphore `s`. -/
def FlightOut (c : Dev nD) (s : DmaSem sig) (a o n : ℕ) (hb : ∀ k, ![a, 0, 0] k + ![n, 512, 512] k ≤ (A3 24 512 512).size k)
    (ho : ∀ k, ![o, 0, 0] k + ![n, 512, 512] k ≤ (A3 48 512 512).size k) (f : (A3 24 512 512).Idx → Elt F .f32)
    (y : (A3 48 512 512).Idx → Elt F .f32) : sProp 𝕄 :=
  Transfers.Flight countersEmb (c : Thread nD τ) (SemLoc.dma s) () (outDst o n ho).view.dmaCredit
    iprop(outPt c (box o 0 0 n 512 512 ho).set y ∗ bufPt c (box a 0 0 n 512 512 hb).set f)

/-! ## The steps -/

section Steps

variable {Λ : Labels} {defs : Defs nD τ sig (Elt F) Λ} (𝒱 : Variants) (c : Dev nD) (bd : Option 𝒱.V)
variable {α : Type} {Q : α → sProp (MT nD τ sig Unit (Elt F) ℕ (Pipeline.UD sig nD τ) ℕ)}

/-- What a transfer in leaves in the box it lands in is what `load` says. -/
theorem landed_in {a o n : ℕ} (hb : ∀ k, ![a, 0, 0] k + ![n, 384, 384] k ≤ (A3 24 512 512).size k)
    (ho : ∀ k, ![o, 0, 0] k + ![n, 384, 384] k ≤ (A3 48 384 384).size k) (x : (A3 48 384 384).Idx → Elt F .f32)
    (f : (A3 24 512 512).Idx → Elt F .f32) :
    ∀ i ∈ (box a 0 0 n 384 384 hb).set,
      ((bufIn a n hb).view.write (Elt F) f (ReadAs.same.apply ((inSrc o n ho).view.read (Elt F) x)) Finset.univ) i = load a o n x f i := by
  intro i hi
  obtain ⟨j, rfl⟩ := (box a 0 0 n 384 384 hb).exists_idx_of_mem hi
  exact (View.write_emb_of_mem (v := (bufIn a n hb).view) f _ (Finset.mem_univ j)).trans (load_emb x f hb ho j).symm

/-- What a transfer out of a loaded and padded bank leaves in the group it writes is what `pad` says. -/
theorem landed_out {a o n : ℕ} (hn : n ≤ 8) (hb : ∀ k, ![a, 0, 0] k + ![n, 512, 512] k ≤ (A3 24 512 512).size k)
    (ho : ∀ k, ![o, 0, 0] k + ![n, 512, 512] k ≤ (A3 48 512 512).size k) (z : Elt F .f32) (x : (A3 48 384 384).Idx → Elt F .f32)
    (f : (A3 24 512 512).Idx → Elt F .f32) (hf : Padded z a f) (g : (A3 48 512 512).Idx → Elt F .f32) :
    ∀ i ∈ (box o 0 0 n 512 512 ho).set,
      ((outDst o n ho).view.write (Elt F) g (ReadAs.same.apply ((bufOut a n hb).view.read (Elt F) (load a o n x f))) Finset.univ) i = pad z x i := by
  intro i hi
  obtain ⟨j, rfl⟩ := (box o 0 0 n 512 512 ho).exists_idx_of_mem hi
  exact (View.write_emb_of_mem (v := (outDst o n ho).view) g _ (Finset.mem_univ j)).trans (pad_emb z x f hf hn hb ho j).symm

/-- Every transfer moves something. -/
theorem numel_pos {n h w : ℕ} (hn : 0 < n) (hh : 0 < h) (hw : 0 < w) : 0 < (A3 n h w).numel :=
  Shape.numel_pos (Fin.forall_fin_succ.mpr ⟨hn, Fin.forall_fin_succ.mpr ⟨hh, Fin.forall_fin_succ.mpr ⟨hw, fun k => k.elim0⟩⟩⟩)

/-- Starting a transfer in: of what is held of the staging buffer (`S`), the box it lands in is lent. -/
theorem start_in {a o n : ℕ} {hb : ∀ k, ![a, 0, 0] k + ![n, 384, 384] k ≤ (A3 24 512 512).size k}
    {ho : ∀ k, ![o, 0, 0] k + ![n, 384, 384] k ≤ (A3 48 384 384).size k} {s : DmaSem sig}
    {hsrc : (inSrc o n ho).view.WordExact} {hdst : (bufIn a n hb).view.WordExact}
    {hsem : (DmaTarget.here (bufIn a n hb) : DmaTarget nD τ sig .tc .vmem (A3 n 384 384) .f32).Typed .hbm (.dma s)}
    {k : PUnit → Prog (TpuEff nD τ sig (Elt F) Λ .tc) α} {x : (A3 48 384 384).Idx → Elt F .f32}
    {S : Finset (A3 24 512 512).Idx} {f : (A3 24 512 512).Idx → Elt F .f32}
    (hn : 0 < n) (hS : (box a 0 0 n 384 384 hb).set ⊆ S) :
    iprop(inPt c (box o 0 0 n 384 384 ho).set x ∗ bufPt c S f ∗ idle c s)
      ⊢ iprop((iprop(FlightIn c s a o n hb ho x f ∗ bufPt c (S \ (box a 0 0 n 384 384 hb).set) f)
              -∗ wp frame (wpE defs 𝒱 (c : Thread nD τ) bd) Set.univ (k ⟨⟩) Q)
          -∗ wp frame (wpE defs 𝒱 (c : Thread nD τ) bd) Set.univ
              (.op (.enqueueDma (inSrc o n ho) (.here (bufIn a n hb)) (SemLoc.dma s) hsrc hdst hsem) k) Q) := by
  have hsI : (inSrc o n ho).view.set = (box o 0 0 n 384 384 ho).set := View.set_slice_whole main_v1 _
  have hsB : (bufIn a n hb).view.set = (box a 0 0 n 384 384 hb).set := View.set_slice_whole cc0_scratch0 _
  have hpos : 0 < (bufIn a n hb).view.dmaCredit := View.dmaCredit_pos _ (numel_pos hn (by decide) (by decide))
  iintro ⟨Hx, Hb, Hs⟩ Hk
  ihave Hb' := (pointsTo_split_subset hS).1 $$ Hb
  icases Hb' with ⟨Hb, Hrest⟩
  iapply (Transfers.wp_dmaLocal countersEmb 𝒱 (c : Thread nD τ) bd (src := inSrc o n ho) (dst := bufIn a n hb)
    (q := fullShare) (fs := x) (fd := f) (Sd := (box a 0 0 n 384 384 hb).set) () (bufIn a n hb).view.dmaCredit rfl hpos
    (hsB ▸ subset_rfl)) $$ [Hx Hb Hs]
  · isplitl [Hx]
    · rw [hsI]; iexact Hx
    isplitl [Hb] <;> iassumption
  iintro Hf
  iapply Hk
  isplitl [Hf]
  · unfold FlightIn
    rw [hsI, pointsTo_congr (landed_in hb ho x f)]
    iexact Hf
  · iexact Hrest

/-- Waiting for a transfer in: the bank it landed in comes back whole, whatever was done to the rest of it (`f'`)
    meanwhile. -/
theorem wait_in {a o n : ℕ} {hb : ∀ k, ![a, 0, 0] k + ![n, 384, 384] k ≤ (A3 24 512 512).size k}
    {ho : ∀ k, ![o, 0, 0] k + ![n, 384, 384] k ≤ (A3 48 384 384).size k} {s : DmaSem sig}
    {hsrc : (inSrc o n ho).view.WordExact} {hdst : (bufIn a n hb).view.WordExact}
    {k : PUnit → Prog (TpuEff nD τ sig (Elt F) Λ .tc) α} {x : (A3 48 384 384).Idx → Elt F .f32}
    {S : Finset (A3 24 512 512).Idx} {f f' : (A3 24 512 512).Idx → Elt F .f32} {W : Waits sig Unit}
    (hS : (box a 0 0 n 384 384 hb).set ⊆ S) :
    iprop(FlightIn c s a o n hb ho x f ∗ bufPt c (S \ (box a 0 0 n 384 384 hb).set) f' ∗ owes (c : Thread nD τ) 0 W)
      ⊢ iprop((iprop(bufPt c S (load a o n x f') ∗ inPt c (box o 0 0 n 384 384 ho).set x ∗ idle c s
                ∗ owes (c : Thread nD τ) 0 (insert (SemLoc.dma s, ()) W))
              -∗ wp frame (wpE defs 𝒱 (c : Thread nD τ) bd) Set.univ (k ⟨⟩) Q)
          -∗ wp frame (wpE defs 𝒱 (c : Thread nD τ) bd) Set.univ
              (.op (.waitDma2 s (inSrc o n ho) (bufIn a n hb) hsrc hdst) k) Q) := by
  iintro ⟨Hf, Hrest, HW⟩ Hk
  unfold FlightIn
  iapply (Transfers.wp_waitLocal countersEmb 𝒱 (c : Thread nD τ) bd (srcw := inSrc o n ho) (dstw := bufIn a n hb) () rfl) $$ [Hf HW]
  · isplitl [Hf] <;> iassumption
  iintro ⟨⟨Hb, Hx⟩, Hs, HW⟩
  iapply Hk
  isplitl [Hb Hrest]
  · iapply (pointsTo_split_subset hS).2
    isplitl [Hb]
    · rw [pointsTo_congr fun i hi => load_congr x f' f (ho 0) hi]; iexact Hb
    · rw [pointsTo_congr fun i hi => load_off (o := o) x f' (Finset.mem_sdiff.mp hi).2]; iexact Hrest
  isplitl [Hx]; · iexact Hx
  isplitl [Hs] <;> iassumption

/-- Starting a transfer out of a loaded and padded bank: of what is held of it (`S`), the planes it reads are lent;
    it will have written the group's planes of the padded array. -/
theorem start_out {a o n : ℕ} {hb : ∀ k, ![a, 0, 0] k + ![n, 512, 512] k ≤ (A3 24 512 512).size k}
    {ho : ∀ k, ![o, 0, 0] k + ![n, 512, 512] k ≤ (A3 48 512 512).size k} {s : DmaSem sig}
    {hsrc : (bufOut a n hb).view.WordExact} {hdst : (outDst o n ho).view.WordExact}
    {hsem : (DmaTarget.here (outDst o n ho) : DmaTarget nD τ sig .tc .hbm (A3 n 512 512) .f32).Typed .vmem (.dma s)}
    {k : PUnit → Prog (TpuEff nD τ sig (Elt F) Λ .tc) α} {x : (A3 48 384 384).Idx → Elt F .f32}
    {S : Finset (A3 24 512 512).Idx} {f : (A3 24 512 512).Idx → Elt F .f32} {y : (A3 48 512 512).Idx → Elt F .f32} {z : Elt F .f32}
    (hn : 0 < n) (hn8 : n ≤ 8) (hf : Padded z a f) (hS : (box a 0 0 n 512 512 hb).set ⊆ S) :
    iprop(bufPt c S (load a o n x f) ∗ outPt c (box o 0 0 n 512 512 ho).set y ∗ idle c s)
      ⊢ iprop((iprop(FlightOut c s a o n hb ho (load a o n x f) (pad z x) ∗ bufPt c (S \ (box a 0 0 n 512 512 hb).set) (load a o n x f))
              -∗ wp frame (wpE defs 𝒱 (c : Thread nD τ) bd) Set.univ (k ⟨⟩) Q)
          -∗ wp frame (wpE defs 𝒱 (c : Thread nD τ) bd) Set.univ
              (.op (.enqueueDma (bufOut a n hb) (.here (outDst o n ho)) (SemLoc.dma s) hsrc hdst hsem) k) Q) := by
  have hsO : (outDst o n ho).view.set = (box o 0 0 n 512 512 ho).set := View.set_slice_whole main_v2 _
  have hsB : (bufOut a n hb).view.set = (box a 0 0 n 512 512 hb).set := View.set_slice_whole cc0_scratch0 _
  have hpos : 0 < (outDst o n ho).view.dmaCredit := View.dmaCredit_pos _ (numel_pos hn (by decide) (by decide))
  iintro ⟨Hb, Hy, Hs⟩ Hk
  ihave Hb' := (pointsTo_split_subset hS).1 $$ Hb
  icases Hb' with ⟨Hb, Hrest⟩
  iapply (Transfers.wp_dmaLocal countersEmb 𝒱 (c : Thread nD τ) bd (src := bufOut a n hb) (dst := outDst o n ho)
    (q := fullShare) (fs := load a o n x f) (fd := y) (Sd := (box o 0 0 n 512 512 ho).set) () (outDst o n ho).view.dmaCredit rfl hpos
    (hsO ▸ subset_rfl)) $$ [Hb Hy Hs]
  · isplitl [Hb]
    · rw [hsB]; iexact Hb
    isplitl [Hy] <;> iassumption
  iintro Hf
  iapply Hk
  isplitl [Hf]
  · unfold FlightOut
    rw [hsB, pointsTo_congr (landed_out hn8 hb ho z x f hf y)]
    iexact Hf
  · iexact Hrest

/-- Waiting for a transfer out: the bank comes back whole, and the group is written. -/
theorem wait_out {a o n : ℕ} {hb : ∀ k, ![a, 0, 0] k + ![n, 512, 512] k ≤ (A3 24 512 512).size k}
    {ho : ∀ k, ![o, 0, 0] k + ![n, 512, 512] k ≤ (A3 48 512 512).size k} {s : DmaSem sig}
    {hsrc : (bufOut a n hb).view.WordExact} {hdst : (outDst o n ho).view.WordExact}
    {k : PUnit → Prog (TpuEff nD τ sig (Elt F) Λ .tc) α}
    {S : Finset (A3 24 512 512).Idx} {f : (A3 24 512 512).Idx → Elt F .f32} {y : (A3 48 512 512).Idx → Elt F .f32} {W : Waits sig Unit}
    (hS : (box a 0 0 n 512 512 hb).set ⊆ S) :
    iprop(FlightOut c s a o n hb ho f y ∗ bufPt c (S \ (box a 0 0 n 512 512 hb).set) f ∗ owes (c : Thread nD τ) 0 W)
      ⊢ iprop((iprop(bufPt c S f ∗ outPt c (box o 0 0 n 512 512 ho).set y ∗ idle c s
                ∗ owes (c : Thread nD τ) 0 (insert (SemLoc.dma s, ()) W))
              -∗ wp frame (wpE defs 𝒱 (c : Thread nD τ) bd) Set.univ (k ⟨⟩) Q)
          -∗ wp frame (wpE defs 𝒱 (c : Thread nD τ) bd) Set.univ
              (.op (.waitDma2 s (bufOut a n hb) (outDst o n ho) hsrc hdst) k) Q) := by
  iintro ⟨Hf, Hrest, HW⟩ Hk
  unfold FlightOut
  iapply (Transfers.wp_waitLocal countersEmb 𝒱 (c : Thread nD τ) bd (srcw := bufOut a n hb) (dstw := outDst o n ho) () rfl) $$ [Hf HW]
  · isplitl [Hf] <;> iassumption
  iintro ⟨⟨Hy, Hb⟩, Hs, HW⟩
  iapply Hk
  isplitl [Hb Hrest]
  · iapply (pointsTo_split_subset hS).2
    isplitl [Hb] <;> iassumption
  isplitl [Hy]; · iexact Hy
  isplitl [Hs] <;> iassumption

/-- A load of a box of the staging buffer, of which more than the box is held: nothing changes. -/
theorem peek {a b d n h w : ℕ} {hb : ∀ k, ![a, b, d] k + ![n, h, w] k ≤ (A3 24 512 512).size k}
    {hl : (Memref.whole cc0_scratch0 : Memref sig .tc .vmem S24x512x512 .f32).view.LoadsAt (box a b d n h w hb).toLoadRect}
    {k : ((A3 n h w).Idx → Elt F .f32) → Prog (TpuEff nD τ sig (Elt F) Λ .tc) α} {S : Finset (A3 24 512 512).Idx}
    {f : (A3 24 512 512).Idx → Elt F .f32} (hS : (box a b d n h w hb).set ⊆ S) :
    bufPt c S f
      ⊢ iprop((bufPt c S f -∗ ∀ v, wp frame (wpE defs 𝒱 (c : Thread nD τ) bd) Set.univ (k v) Q)
          -∗ wp frame (wpE defs 𝒱 (c : Thread nD τ) bd) Set.univ
              (.op (.load (Memref.whole cc0_scratch0 : Memref sig .tc .vmem S24x512x512 .f32) (box a b d n h w hb).toLoadRect hl) k) Q) := by
  have hs : (Memref.whole cc0_scratch0 : Memref sig .tc .vmem S24x512x512 .f32).view.setOn (box a b d n h w hb).toLoadRect.set
      = (box a b d n h w hb).set := Finset.map_refl
  iintro Hb Hk
  iapply (wp_load 𝒱 (c : Thread nD τ) bd Set.univ (m := (Memref.whole cc0_scratch0 : Memref sig .tc .vmem S24x512x512 .f32))
    (r := (box a b d n h w hb).toLoadRect) (S := S) (q := fullShare) (f := f) (hs.subset.trans hS)) $$ Hb
  iintro Hb
  ihave Hk' := Hk $$ Hb
  iapply Hk'

/-- A store of `z` everywhere into a box of the staging buffer, of which more than the box is held. -/
theorem poke {a b d n h w : ℕ} {hb : ∀ k, ![a, b, d] k + ![n, h, w] k ≤ (A3 24 512 512).size k}
    {hx : ((Memref.whole cc0_scratch0 : Memref sig .tc .vmem S24x512x512 .f32).access (box a b d n h w hb)).Stores Finset.univ}
    {hm : (Finset.univ : Finset (A3 n h w).Idx) = Finset.univ ∨ ∀ k, (box a b d n h w hb).stride k = 1}
    {k : PUnit → Prog (TpuEff nD τ sig (Elt F) Λ .tc) α} {S : Finset (A3 24 512 512).Idx} {v : (A3 n h w).Idx → Elt F .f32}
    {f : (A3 24 512 512).Idx → Elt F .f32} (z : Elt F .f32) (hv : ∀ j, v j = z) (hS : (box a b d n h w hb).set ⊆ S) :
    bufPt c S f
      ⊢ iprop((bufPt c S (fill (box a b d n h w hb).set z f) -∗ wp frame (wpE defs 𝒱 (c : Thread nD τ) bd) Set.univ (k ⟨⟩) Q)
          -∗ wp frame (wpE defs 𝒱 (c : Thread nD τ) bd) Set.univ
              (.op (.store (Memref.whole cc0_scratch0 : Memref sig .tc .vmem S24x512x512 .f32) (box a b d n h w hb) v Finset.univ hx hm) k) Q) := by
  have hs : ((Memref.whole cc0_scratch0 : Memref sig .tc .vmem S24x512x512 .f32).access (box a b d n h w hb)).set
      = (box a b d n h w hb).set := View.set_slice_whole cc0_scratch0 _
  have hw : ((Memref.whole cc0_scratch0 : Memref sig .tc .vmem S24x512x512 .f32).access (box a b d n h w hb)).write (Elt F) f v Finset.univ
      = fill (box a b d n h w hb).set z f := by
    funext i
    unfold fill
    by_cases hi : i ∈ (box a b d n h w hb).set
    · rw [if_pos hi]
      obtain ⟨j, rfl⟩ := (box a b d n h w hb).exists_idx_of_mem hi
      exact (View.write_emb_of_mem (v := (Memref.whole cc0_scratch0 : Memref sig .tc .vmem S24x512x512 .f32).access (box a b d n h w hb))
        f v (Finset.mem_univ j)).trans (hv j)
    · rw [if_neg hi]
      exact View.write_of_not_mem _ _ _ fun h => hi (hs ▸ h)
  iintro Hb Hk
  iapply (wp_store 𝒱 (c : Thread nD τ) bd Set.univ (m := (Memref.whole cc0_scratch0 : Memref sig .tc .vmem S24x512x512 .f32))
    (r := box a b d n h w hb) (w := v) (Mk := Finset.univ) (S := S) (f := f) (View.setOn_univ _ ▸ hs ▸ hS)) $$ Hb
  iintro Hb
  iapply Hk
  rw [← hw]
  iexact Hb

/-! ## The same, a group of planes `g` through a bank `b` -/

/-- The transfer of group `g` of the input `x` into bank `b`, in flight on semaphore `s`. -/
abbrev Arriving (c : Dev nD) (s : DmaSem sig) (b : Fin 3) (g : Fin 8) (x : (A3 48 384 384).Idx → Elt F .f32)
    (f : (A3 24 512 512).Idx → Elt F .f32) : sProp 𝕄 :=
  FlightIn c s (8 * b.val) (offs g) (sizes g) (room_in b g) (group_inb g 384 384) x f
/-- The transfer of bank `b` into group `g` of the result, in flight on semaphore `s`. -/
abbrev Departing (c : Dev nD) (s : DmaSem sig) (b : Fin 3) (g : Fin 8) (f : (A3 24 512 512).Idx → Elt F .f32)
    (y : (A3 48 512 512).Idx → Elt F .f32) : sProp 𝕄 :=
  FlightOut c s (8 * b.val) (offs g) (sizes g) (room_out b g) (group_inb g 512 512) f y

theorem bank_start_in (b : Fin 3) (g : Fin 8) (s : DmaSem sig) {hsrc : (inSrc (offs g) (sizes g) (group_inb g 384 384)).view.WordExact}
    {hdst : (bufIn (8 * b.val) (sizes g) (room_in b g)).view.WordExact}
    {hsem : (DmaTarget.here (bufIn (8 * b.val) (sizes g) (room_in b g)) : DmaTarget nD τ sig .tc .vmem (A3 (sizes g) 384 384) .f32).Typed .hbm (.dma s)}
    {k : PUnit → Prog (TpuEff nD τ sig (Elt F) Λ .tc) α} (x : (A3 48 384 384).Idx → Elt F .f32) (f : (A3 24 512 512).Idx → Elt F .f32) :
    iprop(inPt c (group 384 384 g) x ∗ bufPt c (bank b) f ∗ idle c s)
      ⊢ iprop((iprop(Arriving c s b g x f ∗ bufPt c (bank b \ landing b g) f)
              -∗ wp frame (wpE defs 𝒱 (c : Thread nD τ) bd) Set.univ (k ⟨⟩) Q)
          -∗ wp frame (wpE defs 𝒱 (c : Thread nD τ) bd) Set.univ
              (.op (.enqueueDma (inSrc (offs g) (sizes g) (group_inb g 384 384)) (.here (bufIn (8 * b.val) (sizes g) (room_in b g)))
                (SemLoc.dma s) hsrc hdst hsem) k) Q) :=
  start_in 𝒱 c bd (sizes_pos g) (landing_sub b g)

theorem bank_wait_in (b : Fin 3) (g : Fin 8) (s : DmaSem sig) {hsrc : (inSrc (offs g) (sizes g) (group_inb g 384 384)).view.WordExact}
    {hdst : (bufIn (8 * b.val) (sizes g) (room_in b g)).view.WordExact}
    {k : PUnit → Prog (TpuEff nD τ sig (Elt F) Λ .tc) α} (x : (A3 48 384 384).Idx → Elt F .f32) (f f' : (A3 24 512 512).Idx → Elt F .f32)
    (W : Waits sig Unit) :
    iprop(Arriving c s b g x f ∗ bufPt c (bank b \ landing b g) f' ∗ owes (c : Thread nD τ) 0 W)
      ⊢ iprop((iprop(bufPt c (bank b) (loaded b g x f') ∗ inPt c (group 384 384 g) x ∗ idle c s
                ∗ owes (c : Thread nD τ) 0 (insert (SemLoc.dma s, ()) W))
              -∗ wp frame (wpE defs 𝒱 (c : Thread nD τ) bd) Set.univ (k ⟨⟩) Q)
          -∗ wp frame (wpE defs 𝒱 (c : Thread nD τ) bd) Set.univ
              (.op (.waitDma2 s (inSrc (offs g) (sizes g) (group_inb g 384 384)) (bufIn (8 * b.val) (sizes g) (room_in b g)) hsrc hdst) k) Q) :=
  wait_in 𝒱 c bd (landing_sub b g)

theorem bank_start_out (b : Fin 3) (g : Fin 8) (s : DmaSem sig) {hsrc : (bufOut (8 * b.val) (sizes g) (room_out b g)).view.WordExact}
    {hdst : (outDst (offs g) (sizes g) (group_inb g 512 512)).view.WordExact}
    {hsem : (DmaTarget.here (outDst (offs g) (sizes g) (group_inb g 512 512)) : DmaTarget nD τ sig .tc .hbm (A3 (sizes g) 512 512) .f32).Typed .vmem (.dma s)}
    {k : PUnit → Prog (TpuEff nD τ sig (Elt F) Λ .tc) α} (x : (A3 48 384 384).Idx → Elt F .f32) {z : Elt F .f32}
    {f : (A3 24 512 512).Idx → Elt F .f32} (hf : Ready z b f) (y : (A3 48 512 512).Idx → Elt F .f32) :
    iprop(bufPt c (bank b) (loaded b g x f) ∗ outPt c (group 512 512 g) y ∗ idle c s)
      ⊢ iprop((iprop(Departing c s b g (loaded b g x f) (pad z x) ∗ bufPt c (bank b \ leaving b g) (loaded b g x f))
              -∗ wp frame (wpE defs 𝒱 (c : Thread nD τ) bd) Set.univ (k ⟨⟩) Q)
          -∗ wp frame (wpE defs 𝒱 (c : Thread nD τ) bd) Set.univ
              (.op (.enqueueDma (bufOut (8 * b.val) (sizes g) (room_out b g)) (.here (outDst (offs g) (sizes g) (group_inb g 512 512)))
                (SemLoc.dma s) hsrc hdst hsem) k) Q) :=
  start_out 𝒱 c bd (sizes_pos g) (sizes_le g) hf (leaving_sub b g)

theorem bank_wait_out (b : Fin 3) (g : Fin 8) (s : DmaSem sig) {hsrc : (bufOut (8 * b.val) (sizes g) (room_out b g)).view.WordExact}
    {hdst : (outDst (offs g) (sizes g) (group_inb g 512 512)).view.WordExact}
    {k : PUnit → Prog (TpuEff nD τ sig (Elt F) Λ .tc) α} (f : (A3 24 512 512).Idx → Elt F .f32) (y : (A3 48 512 512).Idx → Elt F .f32)
    (W : Waits sig Unit) :
    iprop(Departing c s b g f y ∗ bufPt c (bank b \ leaving b g) f ∗ owes (c : Thread nD τ) 0 W)
      ⊢ iprop((iprop(bufPt c (bank b) f ∗ outPt c (group 512 512 g) y ∗ idle c s
                ∗ owes (c : Thread nD τ) 0 (insert (SemLoc.dma s, ()) W))
              -∗ wp frame (wpE defs 𝒱 (c : Thread nD τ) bd) Set.univ (k ⟨⟩) Q)
          -∗ wp frame (wpE defs 𝒱 (c : Thread nD τ) bd) Set.univ
              (.op (.waitDma2 s (bufOut (8 * b.val) (sizes g) (room_out b g)) (outDst (offs g) (sizes g) (group_inb g 512 512)) hsrc hdst) k) Q) :=
  wait_out 𝒱 c bd (leaving_sub b g)

end Steps

end Cert.Kernel.Hand

end
-- ==== Proof.Body.lean ====
/-
  Hand-written, untrusted. The kernel's body, whole: from the input held at `x`, the result held at anything, the
  staging buffer held at anything and the six DMA counters at zero, the body ends with the input unchanged and the
  result at `pad z x` — each plane in the first 384 rows and columns, the fill value `z` everywhere else. The eight
  groups go through the three banks in turn; each step is one lemma of Proof/Steps.lean.
-/
module

public import proofs.«01_k».proof.Proof.Steps

@[expose] public section

noncomputable section

namespace Cert.Kernel.Hand

open Cert.Kernel Cert.Kernel.Gen Cert.Pad
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## The groups and the banks, one by one -/

section Pieces

variable {T : Type} [Fintype T] (ℓ : Loc nD τ sig) (K : T → Finset (Idx ℓ)) (hd : ∀ t t', t ≠ t' → Disjoint (K t) (K t'))
  (hc : ∀ i, ∃ t, i ∈ K t)

include hd hc

/-- A buffer held whole is held piece by piece, for any pieces that share nothing and leave nothing out. -/
theorem pieces (f : Buf (Elt F) ℓ) : ((ℓ ↦{fullShare} f) : sProp 𝕄) = bigSep Finset.univ fun t => ℓ ↦[K t]{fullShare} f := by
  rw [← pointsTo_biUnion Finset.univ K fun t _ t' _ h => hd t t' h,
    Finset.eq_univ_iff_forall.mpr fun i => Finset.mem_biUnion.mpr ⟨(hc i).choose, Finset.mem_univ _, (hc i).choose_spec⟩]

/-- Pieces held at contents of their own are the whole held at some contents. -/
theorem pieces_join (fs : T → Buf (Elt F) ℓ) (f₀ : Buf (Elt F) ℓ) :
    (bigSep Finset.univ fun t => ℓ ↦[K t]{fullShare} fs t) ⊢ (iprop(∃ f, ℓ ↦{fullShare} f) : sProp 𝕄) := by
  refine (pointsTo_biUnion_join Finset.univ K fs f₀ fun t _ t' _ h => hd t t' h).trans ?_
  rw [Finset.eq_univ_iff_forall.mpr fun i => Finset.mem_biUnion.mpr ⟨(hc i).choose, Finset.mem_univ _, (hc i).choose_spec⟩]
  iintro ⟨%g, -, H⟩
  iexists g
  iexact H

end Pieces

/-- The input is its eight groups of planes. -/
theorem in_groups (c : Dev nD) (x : (A3 48 384 384).Idx → Elt F .f32) :
    (((c : Thread nD τ).loc main_v1 ↦{fullShare} x) : sProp 𝕄)
      = iprop(inPt c (group 384 384 0) x ∗ inPt c (group 384 384 1) x ∗ inPt c (group 384 384 2) x
      ∗ inPt c (group 384 384 3) x ∗ inPt c (group 384 384 4) x ∗ inPt c (group 384 384 5) x ∗ inPt c (group 384 384 6) x
      ∗ inPt c (group 384 384 7) x) := by
  rw [pieces ((c : Thread nD τ).loc main_v1) (group 384 384) (fun g g' hg => group_disjoint hg) group_cover,
    bigSep_univ_eq_bigSepL [0, 1, 2, 3, 4, 5, 6, 7] (by decide) (by decide)]
  rfl

/-- The result is its eight groups of planes. -/
theorem out_groups (c : Dev nD) (y : (A3 48 512 512).Idx → Elt F .f32) :
    (((c : Thread nD τ).loc main_v2 ↦{fullShare} y) : sProp 𝕄)
      = iprop(outPt c (group 512 512 0) y ∗ outPt c (group 512 512 1) y ∗ outPt c (group 512 512 2) y
      ∗ outPt c (group 512 512 3) y ∗ outPt c (group 512 512 4) y ∗ outPt c (group 512 512 5) y ∗ outPt c (group 512 512 6) y
      ∗ outPt c (group 512 512 7) y) := by
  rw [pieces ((c : Thread nD τ).loc main_v2) (group 512 512) (fun g g' hg => group_disjoint hg) group_cover,
    bigSep_univ_eq_bigSepL [0, 1, 2, 3, 4, 5, 6, 7] (by decide) (by decide)]
  rfl

/-- The staging buffer is its three banks. -/
theorem buf_banks (c : Dev nD) (f : (A3 24 512 512).Idx → Elt F .f32) :
    (((c : Thread nD τ).loc cc0_scratch0 ↦{fullShare} f) : sProp 𝕄)
      = iprop(bufPt c (bank 0) f ∗ bufPt c (bank 1) f ∗ bufPt c (bank 2) f) := by
  rw [pieces ((c : Thread nD τ).loc cc0_scratch0) bank (fun b b' hb => bank_disjoint hb) bank_cover,
    bigSep_univ_eq_bigSepL [0, 1, 2] (by decide) (by decide)]
  rfl

/-- Three banks at three contents are the staging buffer at some contents. -/
theorem banks_join (c : Dev nD) (f0 f1 f2 : (A3 24 512 512).Idx → Elt F .f32) :
    iprop(bufPt c (bank 0) f0 ∗ bufPt c (bank 1) f1 ∗ bufPt c (bank 2) f2)
      ⊢ (iprop(∃ f, (c : Thread nD τ).loc cc0_scratch0 ↦{fullShare} f) : sProp 𝕄) := by
  have h := pieces_join (F := F) ((c : Thread nD τ).loc cc0_scratch0) bank (fun b b' hb => bank_disjoint hb) bank_cover ![f0, f1, f2] f0
  rw [bigSep_univ_eq_bigSepL [0, 1, 2] (by decide) (by decide)] at h
  exact h

/-! ## The body -/

/-- The word the padding is filled with. -/
abbrev fillWord : Elt F .f32 := Scalar.ofBits .f32 0x7FC00000#32

theorem pay1 (j : S8x384x128.Idx) : (k0_pay1 (F := F)) j = fillWord := rfl
theorem pay2 (j : S8x128x512.Idx) : (k0_pay2 (F := F)) j = fillWord := rfl
theorem pay3 (j : S8x384x128.Idx) : (k0_pay3 (F := F)) j = fillWord := rfl
theorem pay4 (j : S8x128x512.Idx) : (k0_pay4 (F := F)) j = fillWord := rfl
theorem pay5 (j : S8x384x128.Idx) : (k0_pay5 (F := F)) j = fillWord := rfl
theorem pay6 (j : S8x128x512.Idx) : (k0_pay6 (F := F)) j = fillWord := rfl

/-- What the body does to the buffers: the result ends at the padded input. -/
theorem body (c : Dev nD) (x : (A3 48 384 384).Idx → Elt F .f32) (W : Waits sig Unit) (Q : PUnit → sProp (MT nD τ sig Unit (Elt F) ℕ (Pipeline.UD sig nD τ) ℕ)) (y : (A3 48 512 512).Idx → Elt F .f32)
    (f : (A3 24 512 512).Idx → Elt F .f32) :
    iprop(((c : Thread nD τ).loc main_v1 ↦{fullShare} x) ∗ ((c : Thread nD τ).loc main_v2 ↦{fullShare} y)
        ∗ ((c : Thread nD τ).loc cc0_scratch0 ↦{fullShare} f)
        ∗ idle c 0 ∗ idle c 1 ∗ idle c 2 ∗ idle c 3 ∗ idle c 4 ∗ idle c 5 ∗ owes (c : Thread nD τ) 0 W)
      ⊢ iprop((iprop(((c : Thread nD τ).loc main_v1 ↦{fullShare} x) ∗ ((c : Thread nD τ).loc main_v2 ↦{fullShare} pad fillWord x)
            ∗ (∃ f, (c : Thread nD τ).loc cc0_scratch0 ↦{fullShare} f)
            ∗ idle c 0 ∗ idle c 1 ∗ idle c 2 ∗ idle c 3 ∗ idle c 4 ∗ idle c 5 ∗ (∃ W, owes (c : Thread nD τ) 0 W)) -∗ Q ⟨⟩)
          -∗ wp frame (wpE (defs₀ (F := F)) Variants.none (c : Thread nD τ) none) Set.univ
            (cc0__pad_kernel (Memref.whole main_v1) (Memref.isWhole_whole _) (Memref.whole main_v2) (Memref.isWhole_whole _)
              (Memref.whole cc0_scratch0) (Memref.isWhole_whole _) cc0_scratch1 cc0_scratch2) Q) := by
  rw [in_groups, out_groups, out_groups, buf_banks, cc0__pad_kernel_eq_skeleton]
  unfold cc0__pad_kernel_skel
  rw [k0_part1_eq_skeleton, k0_part2_eq_skeleton, k0_part3_eq_skeleton, k0_part4_eq_skeleton, k0_part5_eq_skeleton,
    k0_part6_eq_skeleton, k0_part7_eq_skeleton]
  have r0 : Ready fillWord 0 (filled 0 fillWord f) := ready_filled 0 fillWord f
  have r1 : Ready fillWord 1 (filled 1 fillWord f) := ready_filled 1 fillWord f
  have r2 : Ready fillWord 2 (filled 2 fillWord f) := ready_filled 2 fillWord f
  iintro ⟨⟨Hx0, Hx1, Hx2, Hx3, Hx4, Hx5, Hx6, Hx7⟩, ⟨Hy0, Hy1, Hy2, Hy3, Hy4, Hy5, Hy6, Hy7⟩, ⟨Hb0, Hb1, Hb2⟩, Hs0, Hs1, Hs2, Hs3, Hs4, Hs5, HW⟩ HQ
  -- group 0 into bank 0
  iapply (bank_start_in Variants.none c none 0 0 0 x _) $$ [Hx0 Hb0 Hs0]
  · isplitl [Hx0]; · iexact Hx0
    isplitl [Hb0] <;> iassumption
  iintro ⟨Hin0, Hb0⟩
  -- group 1 into bank 1
  iapply (bank_start_in Variants.none c none 1 1 1 x _) $$ [Hx1 Hb1 Hs1]
  · isplitl [Hx1]; · iexact Hx1
    isplitl [Hb1] <;> iassumption
  iintro ⟨Hin1, Hb1⟩
  -- group 2 into bank 2
  iapply (bank_start_in Variants.none c none 2 2 2 x _) $$ [Hx2 Hb2 Hs2]
  · isplitl [Hx2]; · iexact Hx2
    isplitl [Hb2] <;> iassumption
  iintro ⟨Hin2, Hb2⟩
  -- the padding of bank 0
  iapply (peek Variants.none c none (right_sub 0 0)) $$ Hb0
  iintro Hb0 %v
  iapply (poke Variants.none c none fillWord pay1 (right_sub 0 0)) $$ Hb0
  iintro Hb0
  iapply (peek Variants.none c none (below_sub 0 0)) $$ Hb0
  iintro Hb0 %v
  iapply (poke Variants.none c none fillWord pay2 (below_sub 0 0)) $$ Hb0
  iintro Hb0
  -- group 0 has arrived
  iapply (bank_wait_in Variants.none c none 0 0 0 x _ _ _) $$ [Hin0 Hb0 HW]
  · isplitl [Hin0]; · iexact Hin0
    isplitl [Hb0] <;> iassumption
  iintro ⟨Hb0, Hx0, Hs0, HW⟩
  -- group 0 out of bank 0
  iapply (bank_start_out Variants.none c none 0 0 3 x r0 y) $$ [Hb0 Hy0 Hs3]
  · isplitl [Hb0]; · iexact Hb0
    isplitl [Hy0] <;> iassumption
  iintro ⟨Hout0, Hb0⟩
  -- the padding of bank 1
  iapply (peek Variants.none c none (right_sub 1 1)) $$ Hb1
  iintro Hb1 %v
  iapply (poke Variants.none c none fillWord pay3 (right_sub 1 1)) $$ Hb1
  iintro Hb1
  iapply (peek Variants.none c none (below_sub 1 1)) $$ Hb1
  iintro Hb1 %v
  iapply (poke Variants.none c none fillWord pay4 (below_sub 1 1)) $$ Hb1
  iintro Hb1
  -- group 1 has arrived
  iapply (bank_wait_in Variants.none c none 1 1 1 x _ _ _) $$ [Hin1 Hb1 HW]
  · isplitl [Hin1]; · iexact Hin1
    isplitl [Hb1] <;> iassumption
  iintro ⟨Hb1, Hx1, Hs1, HW⟩
  -- group 1 out of bank 1
  iapply (bank_start_out Variants.none c none 1 1 4 x r1 y) $$ [Hb1 Hy1 Hs4]
  · isplitl [Hb1]; · iexact Hb1
    isplitl [Hy1] <;> iassumption
  iintro ⟨Hout1, Hb1⟩
  -- the padding of bank 2
  iapply (peek Variants.none c none (right_sub 2 2)) $$ Hb2
  iintro Hb2 %v
  iapply (poke Variants.none c none fillWord pay5 (right_sub 2 2)) $$ Hb2
  iintro Hb2
  iapply (peek Variants.none c none (below_sub 2 2)) $$ Hb2
  iintro Hb2 %v
  iapply (poke Variants.none c none fillWord pay6 (below_sub 2 2)) $$ Hb2
  iintro Hb2
  -- group 0 is written
  iapply (bank_wait_out Variants.none c none 0 0 3 _ _ _) $$ [Hout0 Hb0 HW]
  · isplitl [Hout0]; · iexact Hout0
    isplitl [Hb0] <;> iassumption
  iintro ⟨Hb0, Hy0, Hs3, HW⟩
  -- group 3 into bank 0
  iapply (bank_start_in Variants.none c none 0 3 0 x _) $$ [Hx3 Hb0 Hs0]
  · isplitl [Hx3]; · iexact Hx3
    isplitl [Hb0] <;> iassumption
  iintro ⟨Hin3, Hb0⟩
  -- group 2 has arrived
  iapply (bank_wait_in Variants.none c none 2 2 2 x _ _ _) $$ [Hin2 Hb2 HW]
  · isplitl [Hin2]; · iexact Hin2
    isplitl [Hb2] <;> iassumption
  iintro ⟨Hb2, Hx2, Hs2, HW⟩
  -- group 2 out of bank 2
  iapply (bank_start_out Variants.none c none 2 2 5 x r2 y) $$ [Hb2 Hy2 Hs5]
  · isplitl [Hb2]; · iexact Hb2
    isplitl [Hy2] <;> iassumption
  iintro ⟨Hout2, Hb2⟩
  -- group 1 is written
  iapply (bank_wait_out Variants.none c none 1 1 4 _ _ _) $$ [Hout1 Hb1 HW]
  · isplitl [Hout1]; · iexact Hout1
    isplitl [Hb1] <;> iassumption
  iintro ⟨Hb1, Hy1, Hs4, HW⟩
  -- group 4 into bank 1
  iapply (bank_start_in Variants.none c none 1 4 1 x _) $$ [Hx4 Hb1 Hs1]
  · isplitl [Hx4]; · iexact Hx4
    isplitl [Hb1] <;> iassumption
  iintro ⟨Hin4, Hb1⟩
  -- group 3 has arrived
  iapply (bank_wait_in Variants.none c none 0 3 0 x _ _ _) $$ [Hin3 Hb0 HW]
  · isplitl [Hin3]; · iexact Hin3
    isplitl [Hb0] <;> iassumption
  iintro ⟨Hb0, Hx3, Hs0, HW⟩
  -- group 3 out of bank 0
  iapply (bank_start_out Variants.none c none 0 3 3 x (r0.loaded 0 x) y) $$ [Hb0 Hy3 Hs3]
  · isplitl [Hb0]; · iexact Hb0
    isplitl [Hy3] <;> iassumption
  iintro ⟨Hout3, Hb0⟩
  -- group 2 is written
  iapply (bank_wait_out Variants.none c none 2 2 5 _ _ _) $$ [Hout2 Hb2 HW]
  · isplitl [Hout2]; · iexact Hout2
    isplitl [Hb2] <;> iassumption
  iintro ⟨Hb2, Hy2, Hs5, HW⟩
  -- group 5 into bank 2
  iapply (bank_start_in Variants.none c none 2 5 2 x _) $$ [Hx5 Hb2 Hs2]
  · isplitl [Hx5]; · iexact Hx5
    isplitl [Hb2] <;> iassumption
  iintro ⟨Hin5, Hb2⟩
  -- group 4 has arrived
  iapply (bank_wait_in Variants.none c none 1 4 1 x _ _ _) $$ [Hin4 Hb1 HW]
  · isplitl [Hin4]; · iexact Hin4
    isplitl [Hb1] <;> iassumption
  iintro ⟨Hb1, Hx4, Hs1, HW⟩
  -- group 4 out of bank 1
  iapply (bank_start_out Variants.none c none 1 4 4 x (r1.loaded 1 x) y) $$ [Hb1 Hy4 Hs4]
  · isplitl [Hb1]; · iexact Hb1
    isplitl [Hy4] <;> iassumption
  iintro ⟨Hout4, Hb1⟩
  -- group 3 is written
  iapply (bank_wait_out Variants.none c none 0 3 3 _ _ _) $$ [Hout3 Hb0 HW]
  · isplitl [Hout3]; · iexact Hout3
    isplitl [Hb0] <;> iassumption
  iintro ⟨Hb0, Hy3, Hs3, HW⟩
  -- group 6 into bank 0
  iapply (bank_start_in Variants.none c none 0 6 0 x _) $$ [Hx6 Hb0 Hs0]
  · isplitl [Hx6]; · iexact Hx6
    isplitl [Hb0] <;> iassumption
  iintro ⟨Hin6, Hb0⟩
  -- group 5 has arrived
  iapply (bank_wait_in Variants.none c none 2 5 2 x _ _ _) $$ [Hin5 Hb2 HW]
  · isplitl [Hin5]; · iexact Hin5
    isplitl [Hb2] <;> iassumption
  iintro ⟨Hb2, Hx5, Hs2, HW⟩
  -- group 5 out of bank 2
  iapply (bank_start_out Variants.none c none 2 5 5 x (r2.loaded 2 x) y) $$ [Hb2 Hy5 Hs5]
  · isplitl [Hb2]; · iexact Hb2
    isplitl [Hy5] <;> iassumption
  iintro ⟨Hout5, Hb2⟩
  -- group 4 is written
  iapply (bank_wait_out Variants.none c none 1 4 4 _ _ _) $$ [Hout4 Hb1 HW]
  · isplitl [Hout4]; · iexact Hout4
    isplitl [Hb1] <;> iassumption
  iintro ⟨Hb1, Hy4, Hs4, HW⟩
  -- group 7 into bank 1
  iapply (bank_start_in Variants.none c none 1 7 1 x _) $$ [Hx7 Hb1 Hs1]
  · isplitl [Hx7]; · iexact Hx7
    isplitl [Hb1] <;> iassumption
  iintro ⟨Hin7, Hb1⟩
  -- group 6 has arrived
  iapply (bank_wait_in Variants.none c none 0 6 0 x _ _ _) $$ [Hin6 Hb0 HW]
  · isplitl [Hin6]; · iexact Hin6
    isplitl [Hb0] <;> iassumption
  iintro ⟨Hb0, Hx6, Hs0, HW⟩
  -- group 6 out of bank 0
  iapply (bank_start_out Variants.none c none 0 6 3 x ((r0.loaded 0 x).loaded 3 x) y) $$ [Hb0 Hy6 Hs3]
  · isplitl [Hb0]; · iexact Hb0
    isplitl [Hy6] <;> iassumption
  iintro ⟨Hout6, Hb0⟩
  -- group 7 has arrived
  iapply (bank_wait_in Variants.none c none 1 7 1 x _ _ _) $$ [Hin7 Hb1 HW]
  · isplitl [Hin7]; · iexact Hin7
    isplitl [Hb1] <;> iassumption
  iintro ⟨Hb1, Hx7, Hs1, HW⟩
  -- group 7 out of bank 1
  iapply (bank_start_out Variants.none c none 1 7 4 x ((r1.loaded 1 x).loaded 4 x) y) $$ [Hb1 Hy7 Hs4]
  · isplitl [Hb1]; · iexact Hb1
    isplitl [Hy7] <;> iassumption
  iintro ⟨Hout7, Hb1⟩
  -- group 5 is written
  iapply (bank_wait_out Variants.none c none 2 5 5 _ _ _) $$ [Hout5 Hb2 HW]
  · isplitl [Hout5]; · iexact Hout5
    isplitl [Hb2] <;> iassumption
  iintro ⟨Hb2, Hy5, Hs5, HW⟩
  -- group 6 is written
  iapply (bank_wait_out Variants.none c none 0 6 3 _ _ _) $$ [Hout6 Hb0 HW]
  · isplitl [Hout6]; · iexact Hout6
    isplitl [Hb0] <;> iassumption
  iintro ⟨Hb0, Hy6, Hs3, HW⟩
  -- group 7 is written
  iapply (bank_wait_out Variants.none c none 1 7 4 _ _ _) $$ [Hout7 Hb1 HW]
  · isplitl [Hout7]; · iexact Hout7
    isplitl [Hb1] <;> iassumption
  iintro ⟨Hb1, Hy7, Hs4, HW⟩
  iapply (le_wp_ret _ _ _ (PUnit.unit : PUnit.{1}) Q)
  iapply HQ
  isplitl [Hx0 Hx1 Hx2 Hx3 Hx4 Hx5 Hx6 Hx7]
  · iframe
  isplitl [Hy0 Hy1 Hy2 Hy3 Hy4 Hy5 Hy6 Hy7]
  · iframe
  isplitl [Hb0 Hb1 Hb2]
  · iapply banks_join
    isplitl [Hb0]; · iexact Hb0
    isplitl [Hb1] <;> iassumption
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  iexists _
  iexact HW

end Cert.Kernel.Hand

end
-- ==== Proof.Run.lean ====
/-
  Hand-written, untrusted. The run of the whole program: the host operations before the launch, the launch, whose body
  (Proof/Body.lean) takes the buffers it uses from the launch and gives them back with the result padded, and the host
  operations after it. Every buffer the launch does not stage ends as the host operations leave it, starting from the
  padded result; every semaphore counter ends at zero.
-/
module

public import proofs.«01_k».proof.Proof.Body
public import proofs.«01_k».proof.Proof.Gen.Kernel.Frame
public import Idealize.ShloMosaic.Lib.Pipeline.FrameSuffixV

@[expose] public section

noncomputable section

namespace Cert.Kernel.Hand

open Cert.Kernel Cert.Kernel.Gen Cert.Pad
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## What the body takes and gives back -/

/-- The body's six DMA counters: three for the transfers in, three for the transfers out. -/
abbrev ownSem : Fin 6 → SemLoc sig := ![.dma 0, .dma 1, .dma 2, .dma 3, .dma 4, .dma 5]
theorem ownSem_facts : Pipeline.OwnSemFacts cfg0.spec ownSem := by decide
/-- The buffer the body reads: the planes of the input. -/
def reads : Finset (Ref sig .tc) := {main_v1}
/-- The buffer the body writes: the planes of the result. -/
def writes : Finset (Ref sig .tc) := {main_v2}
theorem reads_sub : reads ⊆ Pipeline.restRefs sig cfg0.spec := by decide
theorem writes_sub : writes ⊆ Pipeline.restRefs sig cfg0.spec \ reads := by decide

/-- The buffers' contents once the body has run: the result at the padded input, the rest as found. -/
def G (c : Dev nD) : (b : Ref sig .tc) → Buf (Elt F) ((c : Thread nD τ).loc b) :=
  Function.update (V m c) main_v2 (pad fillWord (V m c main_v1))

theorem G_main_v2 (c : Dev nD) : G m c main_v2 = pad fillWord (V m c main_v1) := Function.update_self ..

/-- What the body takes and gives back, buffer by buffer. -/
theorem held_eq (H : (c : Dev nD) → (b : Ref sig .tc) → Buf (Elt F) ((c : Thread nD τ).loc b)) (c : Dev nD) :
    (Pipeline.ΦDRV ownSem cfg0.spec reads writes (V m) H c : sProp 𝕄)
      = iprop((∃ f : Buf (Elt F) ((c : Thread nD τ).loc cc0_scratch0), (c : Thread nD τ).loc cc0_scratch0 ↦{fullShare} f)
          ∗ iprop(idle c 0 ∗ idle c 1 ∗ idle c 2 ∗ idle c 3 ∗ idle c 4 ∗ idle c 5)
          ∗ ((c : Thread nD τ).loc main_v1 ↦{fullShare} V m c main_v1)
          ∗ ((c : Thread nD τ).loc main_v2 ↦{fullShare} H c main_v2)) := by
  unfold Pipeline.ΦDRV
  rw [scopedRest0_eq, Pipeline.ownSems0_eq_of_list c ownSem [0, 1, 2, 3, 4, 5] (by decide) (by decide),
    bigSep_eq_bigSepL_of_eq [main_v1] (by decide) (by decide), bigSep_eq_bigSepL_of_eq [main_v2] (by decide) (by decide)]
  rfl

/-- The proof data: nothing is staged, and the body turns the entry contents into `G`. -/
def dats (_ : Fin 1) (c : Dev nD) : Dat τ (Elt F) Unit ℕ (Pipeline.UD sig nD τ) ℕ cfg0 c where
  A w := w.elim0
  after w := w.elim0
  Φ t := Pipeline.ΦDRV ownSem cfg0.spec reads writes (V m) (if t.val = 0 then V m else G m) c
  q _ := fullShare
  owed _ := 0

/-- No window: nothing to stage. -/
theorem no_windows (Φ : Fin cfg0.W → sProp 𝕄) : bigSep Finset.univ Φ = iprop(emp) := bigSep_empty

theorem body_obligation (c : Dev nD) : BodyObligation (dats (F := F) m 0 c) (defs₀ (F := F)) Variants.none () Set.univ := fun t => by
  have h0 : t.castSucc.val = 0 := by rw [fin_N0 t]; rfl
  have h1 : ¬ t.succ.val = 0 := by simp
  rw [no_windows, no_windows, show (dats m 0 c).Φ t.castSucc = Pipeline.ΦDRV ownSem cfg0.spec reads writes (V m) (if t.castSucc.val = 0 then V m else G m) c from rfl,
    show (dats m 0 c).Φ t.succ = Pipeline.ΦDRV ownSem cfg0.spec reads writes (V m) (if t.succ.val = 0 then V m else G m) c from rfl,
    if_pos h0, if_neg h1, held_eq, held_eq, G_main_v2]
  unfold Dat.owesAt Pipeline.owesWithin
  rw [show (dats m 0 c).owed t.castSucc = 0 from rfl, show (dats m 0 c).owed t.succ = 0 from rfl]
  unfold defs₀
  rw [Defs.onTc_tc]
  iintro ⟨⟨⟨%f, Hb⟩, ⟨Hs0, Hs1, Hs2, Hs3, Hs4, Hs5⟩, Hx, Hy⟩, ⟨%W, -, HW⟩, -⟩
  iapply (body c (V m c main_v1) W _ (V m c main_v2) f) $$ [Hb Hs0 Hs1 Hs2 Hs3 Hs4 Hs5 Hx Hy HW]
  · isplitl [Hx]; · iexact Hx
    isplitl [Hy]; · iexact Hy
    isplitl [Hb]; · iexact Hb
    isplitl [Hs0]; · iexact Hs0
    isplitl [Hs1]; · iexact Hs1
    isplitl [Hs2]; · iexact Hs2
    isplitl [Hs3]; · iexact Hs3
    isplitl [Hs4]; · iexact Hs4
    isplitl [Hs5] <;> iassumption
  iintro ⟨Hx, Hy, Hb, Hs0, Hs1, Hs2, Hs3, Hs4, Hs5, %W', HW⟩
  isplitl [Hb Hs0 Hs1 Hs2 Hs3 Hs4 Hs5 Hx Hy]
  · isplitl [Hb]; · iexact Hb
    isplitl [Hs0 Hs1 Hs2 Hs3 Hs4 Hs5]
    · isplitl [Hs0]; · iexact Hs0
      isplitl [Hs1]; · iexact Hs1
      isplitl [Hs2]; · iexact Hs2
      isplitl [Hs3]; · iexact Hs3
      isplitl [Hs4] <;> iassumption
    isplitl [Hx] <;> iassumption
  isplitl [HW]
  · iexists W'
    isplitr; · ipureintro; exact fun _ _ => Or.inl trivial
    iexact HW
  · iempintro

/-! ## The run -/

theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What a buffer holds at the end: what the host operations after the launch leave in it. -/
def last (c : Dev nD) (b : Ref sig .tc) : Buf (Elt F) ((c : Thread nD τ).loc b) :=
  StableHlo.after (List.flatten [hostOps1])
    (Pipeline.withArrays cfg0.spec c (Pipeline.withR (V0 m c) writes c (G m c)) fun w => (dats m 0 c).arrAt w cfg0.N) (Proc.devRef .tc b)

set_option backward.isDefEq.respectTransparency.types false in
theorem run_main : θ_run defs (onTc (τ := τ) (main (F := F))) ⟨m, fun _ => 0, ρ⟩ (fun r =>
      (∀ c : Dev nD, ∀ b ∈ Pipeline.restRefs sig cfg0.spec, r.2.mem ((c : Thread nD τ).loc b) = last m c b) ∧ r.2.sem = fun _ => 0) :=
  Pipeline.θ_run_frame_dmaR_aroundV cfgs (dats m) (0 : Fin 1) launch0 ownSem defs₀ Variants.none ownSem_facts reads writes
    reads_sub writes_sub m ρ main (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m Variants.none) (hA := fun _ w => w.elim0) (hin := fun _ => .rfl) (hout := fun _ => .rfl)
    (Q' := _) (hQ' := fun _ h => ⟨fun c => (h.1 c).2, h.2⟩)

end Cert.Kernel.Hand

end
-- ==== Proof.Value.lean ====
/-
  Hand-written, untrusted. What the program computes, at an index: moving the channels in front, padding every plane and
  moving the channels back is padding the image (`padded`).
-/
module

public import proofs.«01_k».proof.Proof.Box
public import Idealize.ShloMosaic.Lib.PointwiseCore
public import Idealize.ShloMosaic.Lib.Routing.OpsSet

@[expose] public section

noncomputable section

namespace Cert.Pad

open Idealize.ShloMosaic Idealize.ShloMosaic.Routing

/-- An array of 16 images of `h` rows and `w` columns, the three channels last. -/
abbrev Images (h w : ℕ) : Shape := ⟨4, ![16, h, w, 3]⟩

/-- The same images, channels first. -/
abbrev Planes (h w : ℕ) : Shape := ⟨4, ![16, 3, h, w]⟩

/-- The result: each image of `x` in the first 384 rows and columns of a 512 × 512 image, `z` everywhere else. -/
def padded {V : Type} (z : V) (x : (Images 384 384).Idx → V) : (Images 512 512).Idx → V := fun i =>
  if h : (i 1).val < 384 ∧ (i 2).val < 384 then x (ix4 (i 0) (⟨(i 1).val, h.1⟩ : Fin 384) (⟨(i 2).val, h.2⟩ : Fin 384) (i 3)) else z

/-- Padding the planes is padding the images. -/
theorem padded_of_planes {V : Type} (z : V) (x : (Images 384 384).Idx → V)
    (ht : (Images 384 384).Transposes [0, 3, 1, 2] (Planes 384 384)) (hr : (Planes 384 384).ShapeCasts (A3 48 384 384))
    (hr' : (A3 48 512 512).ShapeCasts (Planes 512 512)) (ht' : (Planes 512 512).Transposes [0, 2, 3, 1] (Images 512 512)) :
    transpose (Images 512 512) [0, 2, 3, 1] (shapeCast (Planes 512 512) (pad z (shapeCast (A3 48 384 384) (transpose (Planes 384 384) [0, 3, 1, 2] x ht) hr)) hr') ht'
      = padded z x := by
  funext j
  idx_vars j
  pointwise [padded, pad]
  have h0 : (j0.val * 3 + j3.val) / 3 = j0.val := by omega
  have h3 : (j0.val * 3 + j3.val) % 3 = j3.val := by omega
  simp only [h0, h3]

/-! ## The reference's write of a block -/

section Scatter

variable {V : Type}

/-- The dimension numbers of a write of a whole block at a row and a column: every axis of the block is kept, and the
    two start words name the row and the column. -/
abbrev blockDims (wf : ScatterDims.WF (Images 512 512) ⟨1, ![2]⟩ (Images 384 384) [0, 1, 2, 3] [] [1, 2] 0) :
    ScatterDims (Images 512 512) ⟨1, ![2]⟩ (Images 384 384) where
  updateWindowDims := [0, 1, 2, 3]
  insertedWindowDims := []
  scatterDimsToOperandDims := [1, 2]
  indexVectorDim := 0
  wf := wf

/-- With both start words zero, update `k` lands at the index of the same coordinates. -/
theorem lands (wf) (idx : IVec ⟨1, ![2]⟩ 32) (hidx : ∀ i, idx i = 0#32) (k : (Images 384 384).Idx) (i : (Images 512 512).Idx) :
    (blockDims wf).resultIdx? k idx = some i ↔ ∀ a, (k a).val = (i a).val := by
  have hstart : ∀ a, (blockDims wf).start k idx a = 0 := fun a => by
    unfold ScatterDims.start
    split
    · rw [hidx]; rfl
    · rfl
  have hwindow : ∀ a : Fin 4, (blockDims wf).window k a = (k a).val :=
    Fin.forall_fin_succ.mpr ⟨rfl, Fin.forall_fin_succ.mpr ⟨rfl, Fin.forall_fin_succ.mpr ⟨rfl, Fin.forall_fin_succ.mpr ⟨rfl, fun a => a.elim0⟩⟩⟩⟩
  rw [resultIdx?_eq_some]
  refine forall_congr' fun a => ?_
  rw [hstart a, hwindow a]
  omega

/-- Writing the images over the first rows and columns of an array of `z` is padding them with `z`. -/
theorem padded_of_scatter (wf) (z : V) (x0 : (Images 512 512).Idx → V) (hx0 : ∀ i, x0 i = z) (idx : IVec ⟨1, ![2]⟩ 32)
    (hidx : ∀ i, idx i = 0#32) (x : (Images 384 384).Idx → V) :
    Host.scatter (blockDims wf) (fun _ b => b) x0 idx x = padded z x := by
  funext i
  unfold padded
  by_cases h : (i 1).val < 384 ∧ (i 2).val < 384
  · rw [dif_pos h]
    refine scatter_set_hit _ _ _ _ _ _ (fun k hk => congrArg x ?_)
      (ix4 (i 0) (⟨(i 1).val, h.1⟩ : Fin 384) (⟨(i 2).val, h.2⟩ : Fin 384) (i 3)) ((lands wf idx hidx _ i).2 ?_)
    · have hk := (lands wf idx hidx k i).1 hk
      funext a
      apply Fin.ext
      rw [hk a]
      revert a
      exact Fin.forall_fin_succ.mpr ⟨rfl, Fin.forall_fin_succ.mpr ⟨rfl, Fin.forall_fin_succ.mpr ⟨rfl, Fin.forall_fin_succ.mpr ⟨rfl, fun a => a.elim0⟩⟩⟩⟩
    · exact Fin.forall_fin_succ.mpr ⟨rfl, Fin.forall_fin_succ.mpr ⟨rfl, Fin.forall_fin_succ.mpr ⟨rfl, Fin.forall_fin_succ.mpr ⟨rfl, fun a => a.elim0⟩⟩⟩⟩
  · rw [dif_neg h, scatter_set_miss _ _ _ _ _ fun k hk => ?_, hx0]
    have hk := (lands wf idx hidx k i).1 hk
    exact h ⟨(hk 1) ▸ (k 1).isLt, (hk 2) ▸ (k 2).isLt⟩

/-- Two zero words, one after the other: zero everywhere. -/
theorem zeros (hb : (⟨0, ![]⟩ : Shape).BroadcastsInDim ⟨1, ![1]⟩ ![]) (hc : Shape.Concatenates [⟨1, ![1]⟩, ⟨1, ![1]⟩] ⟨1, ![2]⟩ 0) (i : Shape.Idx ⟨1, ![2]⟩) :
    concatenate ⟨1, ![2]⟩ 0 [⟨⟨1, ![1]⟩, broadcastInDim ⟨1, ![1]⟩ ![] hb (constantI ⟨0, ![]⟩ 32 0#32)⟩,
      ⟨⟨1, ![1]⟩, broadcastInDim ⟨1, ![1]⟩ ![] hb (constantI ⟨0, ![]⟩ 32 0#32)⟩] hc i = 0#32 := by
  idx_vars i
  pointwise
  split <;> rfl

end Scatter

end Cert.Pad

end
-- ==== Proof.Last.lean ====
/-
  Hand-written, untrusted. What the run leaves in the buffers of the signature: the two arguments as launched, the
  result the images padded.
-/
module

public import proofs.«01_k».proof.Proof.Run
public import proofs.«01_k».proof.Proof.Value
public import Idealize.ShloMosaic.Lib.Claim

@[expose] public section

noncomputable section

namespace Cert.Kernel.Hand

open Cert.Kernel Cert.Kernel.Gen Cert.Pad
open Idealize.ShloMosaic Idealize.ShloMosaic.TcCoe Idealize.SL.Sem

variable {F : FTy → Type} [FloatOps F]
variable (m : (ℓ : Loc nD τ sig) → Buf (Elt F) ℓ) (ρ : Dev nD → PrngReg)

/-- What the buffers hold when the launch is over. -/
abbrev done (c : Dev nD) : (b : Ref sig .tc) → Buf (Elt F) ((c : Thread nD τ).loc b) := fun b =>
  Pipeline.withArrays cfg0.spec c (Pipeline.withR (V0 m c) writes c (G m c)) (fun w => (dats m 0 c).arrAt w cfg0.N) (Proc.devRef .tc b)

/-- The launch leaves alone every buffer but its result. -/
theorem done_other (c : Dev nD) (b : Ref sig .tc) (hb : b ∉ writes) : done m c b = V m c b :=
  (Pipeline.withArrays_of_ne _ c _ _ b fun w => w.elim0).trans (Pipeline.withR_of_not_mem (V0 m c) writes c (G m c) b hb)

/-- The launch leaves the padded planes in its result. -/
theorem done_result (c : Dev nD) : done m c main_v2 = pad fillWord (V m c main_v1) :=
  ((Pipeline.withArrays_of_ne _ c _ _ main_v2 fun w => w.elim0).trans
    (Pipeline.withR_of_mem (V0 m c) writes c (G m c) main_v2 (by decide))).trans (G_main_v2 m c)

/-- No host operation after the launch writes the images. -/
theorem last_arg0 (c : Dev nD) : last m c main_arg0 = m ((c : Thread nD τ).loc main_arg0) := by
  unfold last
  rw [StableHlo.after_of_forall_not_mem (b := Proc.devRef .tc main_arg0) _ _ (List.forall_iff_forall_mem.mp (by
    simp only [hostOps1, List.flatten_cons, List.flatten_nil, List.append_nil, List.Forall, StableHlo.unary_writes,
      StableHlo.reshape_writes, Finset.mem_singleton]
    exact ⟨StableHlo.devRef_ne_of_ne (by decide), StableHlo.devRef_ne_of_ne (by decide)⟩))]
  exact (done_other m c main_arg0 (by decide)).trans (V_main_arg0 m c)

/-- No host operation after the launch writes the unused argument. -/
theorem last_arg1 (c : Dev nD) : last m c main_arg1 = m ((c : Thread nD τ).loc main_arg1) := by
  unfold last
  rw [StableHlo.after_of_forall_not_mem (b := Proc.devRef .tc main_arg1) _ _ (List.forall_iff_forall_mem.mp (by
    simp only [hostOps1, List.flatten_cons, List.flatten_nil, List.append_nil, List.Forall, StableHlo.unary_writes,
      StableHlo.reshape_writes, Finset.mem_singleton]
    exact ⟨StableHlo.devRef_ne_of_ne (by decide), StableHlo.devRef_ne_of_ne (by decide)⟩))]
  exact (done_other m c main_arg1 (by decide)).trans (V_main_arg1 m c)

/-- The launch finds the planes: the images with the channels moved in front and merged with the images. -/
theorem entry_planes (c : Dev nD) : V m c main_v1 = shapeCast S48x384x384
      (transpose S16x3x384x384 [0, 3, 1, 2] (m ((c : Thread nD τ).loc main_arg0)) transposes_S16x384x384x3_S16x3x384x384_0_3_1_2)
      shapeCasts_S16x3x384x384_S48x384x384 := by
  entry_read
  rfl

/-- The result: the launch's result with the channels taken apart from the images and moved back. -/
theorem last_result (c : Dev nD) : last m c main_v4 = transpose S16x512x512x3 [0, 2, 3, 1]
      (shapeCast S16x3x512x512 (done m c main_v2) shapeCasts_S48x512x512_S16x3x512x512) transposes_S16x3x512x512_S16x512x512x3_0_2_3_1 := by
  unfold last done
  generalize Pipeline.withArrays cfg0.spec c (Pipeline.withR (V0 m c) writes c (G m c)) (fun w => (dats m 0 c).arrAt w cfg0.N) = Vd
  after_results <;> rfl

/-- The result is the images padded. -/
theorem last_padded (c : Dev nD) : last m c main_v4 = padded (V := Elt F .f32) fillWord (m ((c : Thread nD τ).loc main_arg0)) := by
  rw [last_result, done_result, entry_planes]
  exact padded_of_planes (V := Elt F .f32) _ _ _ _ _ _

/-- Every execution ends with the arguments as launched, the images padded in the result, and every counter at zero. -/
theorem run : θ_run defs (onTc (τ := τ) (main (F := F))) ⟨m, fun _ => 0, ρ⟩ (fun r =>
      (∀ c : Dev nD, r.2.mem ((c.tc : Thread nD τ).loc main_v4) = padded (V := Elt F .f32) fillWord (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c =>
    ⟨(h.1 c main_v4 (Pipeline.mem_restRefs_of main_v4 (by decide) (by decide))).trans (last_padded m c),
      (h.1 c main_arg0 (Pipeline.mem_restRefs_of main_arg0 (by decide) (by decide))).trans (last_arg0 m c),
      (h.1 c main_arg1 (Pipeline.mem_restRefs_of main_arg1 (by decide) (by decide))).trans (last_arg1 m c)⟩, h.2⟩) (run_main m ρ)

end Cert.Kernel.Hand

end
-- ==== Proof.Ideal.lean ====
/-
  Hand-written, untrusted. The idealized kernel is the kernel, the floats read as ideal values: its run is the kernel's,
  which Proof/Last.lean proves for any float values.
-/
module

public import proofs.«01_k».proof.Proof.Last
public import proofs.«01_k».proof.Proof.Gen.KernelIdeal

@[expose] public section

noncomputable section

namespace Cert.KernelIdeal.Hand

open Cert.KernelIdeal Cert.KernelIdeal.Gen Cert.Pad
open Idealize.ShloMosaic Idealize.ShloMosaic.TcCoe Idealize.SL.Sem

variable {F : FTy → Type} [FloatOps F]
variable (m : (ℓ : Loc nD τ sig) → Buf (Elt F) ℓ) (ρ : Dev nD → PrngReg)

/-- Every execution ends with the arguments as launched, the images padded in the result, and every counter at zero. -/
theorem run : θ_run defs (onTc (τ := τ) (main (F := F))) ⟨m, fun _ => 0, ρ⟩ (fun r =>
      (∀ c : Dev nD, r.2.mem ((c.tc : Thread nD τ).loc main_v4)
          = padded (V := Elt F .f32) (Scalar.ofBits .f32 0x7FC00000#32) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Cert.Kernel.Hand.run (F := F) m ρ

end Cert.KernelIdeal.Hand

end
-- ==== Proof.Blocks.lean ====
/-
  Hand-written, untrusted. The reference's run, in both readings of the floats: its write of the images over an array of
  the fill word pads them.
-/
module

public import proofs.«01_k».proof.Proof.Value
public import proofs.«01_k».proof.Proof.Gen.Reference.Run
public import proofs.«01_k».proof.Proof.Gen.ReferenceIdeal.Run

@[expose] public section

noncomputable section

open Cert.Pad
open Idealize.ShloMosaic Idealize.ShloMosaic.TcCoe Idealize.SL.Sem

variable {F : FTy → Type} [FloatOps F]

namespace Cert.Reference.Hand

open Cert.Reference Cert.Reference.Gen

variable (m : (ℓ : Loc nD τ sig) → Buf (Elt F) ℓ) (ρ : Dev nD → PrngReg)

/-- Every execution ends with the arguments as launched, the images padded in the result, and every counter at zero. -/
theorem run : θ_run defs (onTc (τ := τ) (main (F := F))) ⟨m, fun _ => 0, ρ⟩ (fun r =>
      (∀ c : Dev nD, r.2.mem ((c.tc : Thread nD τ).loc main_v4)
          = padded (V := Elt F .f32) (Scalar.ofBits .f32 0x7FC00000#32) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun r h => ⟨fun c =>
    ⟨(h c).1.trans (padded_of_scatter (V := Elt F .f32) _ _ _ (fun _ => rfl) _ (zeros _ _) _), (h c).2⟩,
      sem_eq_zero_of_no_sems (by decide) r.2⟩) (Value.run m ρ)

end Cert.Reference.Hand

namespace Cert.ReferenceIdeal.Hand

open Cert.ReferenceIdeal Cert.ReferenceIdeal.Gen

variable (m : (ℓ : Loc nD τ sig) → Buf (Elt F) ℓ) (ρ : Dev nD → PrngReg)

/-- The same run of the idealized reference. -/
theorem run : θ_run defs (onTc (τ := τ) (main (F := F))) ⟨m, fun _ => 0, ρ⟩ (fun r =>
      (∀ c : Dev nD, r.2.mem ((c.tc : Thread nD τ).loc main_v4)
          = padded (V := Elt F .f32) (Scalar.ofBits .f32 0x7FC00000#32) (m ((c.tc : Thread nD τ).loc main_arg0))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Cert.Reference.Hand.run (F := F) m ρ

end Cert.ReferenceIdeal.Hand

end
-- ==== Proof.lean ====
/-
  Hand-written, untrusted. The proof of `Cert.Claim` (proofs.«01_k».proof.Defs), assembled from one run per program:
  each ends with the arguments as launched, the images padded with the fill word in the result (`Cert.Pad.padded`), and
  every semaphore counter at zero. The kernel's run is Proof/Last.lean's, the idealized kernel's Proof/Ideal.lean's, the
  two references' Proof/Blocks.lean's. The two programs of a value claim end at the same array because both runs name it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Reference
public import proofs.«01_k».proof.Proof.Gen.ReferenceIdeal
public import proofs.«01_k».proof.Proof.Gen.Reference.Run
public import proofs.«01_k».proof.Proof.Gen.ReferenceIdeal.Run
public import proofs.«01_k».proof.Proof.Last
public import proofs.«01_k».proof.Proof.Ideal
public import proofs.«01_k».proof.Proof.Blocks
public import Idealize.ShloMosaic.Adequacy
public import Idealize.ShloMosaic.Init
public import Idealize.ShloMosaic.Lib.Claim

@[expose] public section

noncomputable section

namespace Cert.Proof

open Idealize.ShloMosaic Idealize.SL.Sem Cert.Kernel

theorem frame_kernel : Cert.quiescent_Kernel (hKernel := Cert.Kernel.Gen.facts) := fun m g _ =>
  θ_run_mono (Cert.Kernel.Hand.run (F := Bits) m g) fun _ h => ⟨fun c => (h.1 c).2, h.2⟩

theorem frame_kernelIdeal : Cert.quiescent_KernelIdeal (hKernelIdeal := Cert.KernelIdeal.Gen.facts) := fun m g _ =>
  θ_run_mono (Cert.KernelIdeal.Hand.run (F := Ideal) m g) fun _ h => ⟨fun c => (h.1 c).2, h.2⟩

theorem frame_reference : Cert.quiescent_Reference (hReference := Cert.Reference.Gen.facts) := fun m g _ =>
  θ_run_mono (Cert.Reference.Hand.run (F := Bits) m g) fun _ h => ⟨fun c => (h.1 c).2, h.2⟩

theorem frame_referenceIdeal : Cert.quiescent_ReferenceIdeal (hReferenceIdeal := Cert.ReferenceIdeal.Gen.facts) := fun m g _ =>
  θ_run_mono (Cert.ReferenceIdeal.Hand.run (F := Ideal) m g) fun _ h => ⟨fun c => (h.1 c).2, h.2⟩

/-- At the ideal values kernel and reference end at the same array. -/
theorem same_values : Cert.algebraic_KernelIdeal_ReferenceIdeal (hKernelIdeal := Cert.KernelIdeal.Gen.facts)
    (hReferenceIdeal := Cert.ReferenceIdeal.Gen.facts) := fun m g m' g' _ hagree =>
  ⟨_, θ_run_mono (Cert.KernelIdeal.Hand.run (F := Ideal) m g) fun _ h => h.1,
    θ_run_mono (Cert.ReferenceIdeal.Hand.run (F := Ideal) m' g') fun _ h c =>
      ⟨(h.1 c).1.trans (congrArg (Cert.Pad.padded (V := Elt Ideal .f32) _) (hagree c).1), (h.1 c).2⟩⟩

/-- They end at the same words too. -/
theorem same_words : Cert.bitexact_Kernel_Reference (hKernel := Cert.Kernel.Gen.facts)
    (hReference := Cert.Reference.Gen.facts) := fun m g m' g' _ hagree =>
  ⟨_, θ_run_mono (Cert.Kernel.Hand.run (F := Bits) m g) fun _ h => h.1,
    θ_run_mono (Cert.Reference.Hand.run (F := Bits) m' g') fun _ h c =>
      ⟨(h.1 c).1.trans (congrArg (Cert.Pad.padded (V := Elt Bits .f32) _) (hagree c).1), (h.1 c).2⟩⟩

theorem claim : Cert.Claim := ⟨Cert.Kernel.Gen.facts, Cert.KernelIdeal.Gen.facts, Cert.Reference.Gen.facts, Cert.ReferenceIdeal.Gen.facts,
  frame_kernel, frame_kernelIdeal, frame_reference, frame_referenceIdeal, trivial, same_values, same_words⟩

end Cert.Proof

end
